-- ==== Defs.lean ====
def Pre_Kernel [hPre_in_vocabulary : Cert.Pre_in_vocabulary.Facts] (m : (ℓ : Loc Cert.Kernel.nD Cert.Kernel.τ Cert.Kernel.sig) → Buf (Elt Bits) ℓ) : Prop :=
  ∀ c : Dev Cert.Kernel.nD,
    (Cert.Pre_in_vocabulary.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel) (hPre_in_vocabulary := hPre_in_vocabulary)
    ∧ quiescent_KernelIdeal (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ preserves_Kernel_KernelIdeal
    ∧ algebraic_KernelIdeal_ReferenceIdeal (hKernelIdeal := hKernelIdeal) (hReferenceIdeal := hReferenceIdeal) (hPre_in_vocabulary := hPre_in_vocabulary)
-- ==== Pre_in_vocabulary.lean ====
abbrev S2048x8 : Shape := ⟨2, ![2048, 8]⟩
abbrev S50257x1024 : Shape := ⟨2, ![50257, 1024]⟩
abbrev S_ : Shape := ⟨0, ![]⟩

class Facts : Prop where
  bcast_S_S2048x8 : S_.BroadcastsInDim S2048x8 (![] : Fin 0 → Fin S2048x8.rank)
  reducesTo_S2048x8_S_d0_1 : S2048x8.ReducesTo [0, 1] S_
  h_S_ : 0 < S_.numel

variable [Facts]

def fn {F : FTy → Type} [FloatOps F] (main_arg0 : IVec S2048x8 32) (main_arg1 : FVec F S50257x1024 .f32) : IVec S_ 1 :=
  let main_c : IVec S_ 32 := constantI S_ 32 0#32
  let main_v0 : IVec S2048x8 32 := broadcastInDim S2048x8 ![] bcast_S_S2048x8 main_c
  let main_v1 : IVec S2048x8 1 := cmpi .sge main_arg0 main_v0
  let main_c_0 : IVec S_ 32 := constantI S_ 32 50257#32
  let main_v2 : IVec S2048x8 32 := broadcastInDim S2048x8 ![] bcast_S_S2048x8 main_c_0
  let main_v3 : IVec S2048x8 1 := cmpi .slt main_arg0 main_v2
  let main_v4 : IVec S2048x8 1 := andi main_v1 main_v3
  let main_c_1 : IVec S_ 1 := constantI S_ 1 1#1
  let main_v5 : IVec S_ 1 := (fun x v => Host.reduce IntOp.andi x v reducesTo_S2048x8_S_d0_1 h_S_) main_v4 main_c_1
  main_v5
-- ==== Kernel.lean ====
abbrev S2048x8 : Shape := ⟨2, ![2048, 8]⟩
abbrev S50257x1024 : Shape := ⟨2, ![50257, 1024]⟩
abbrev S16384 : Shape := ⟨1, ![16384]⟩
abbrev S50257x1x1024 : Shape := ⟨3, ![50257, 1, 1024]⟩
abbrev S16384x1x1024 : Shape := ⟨3, ![16384, 1, 1024]⟩
abbrev S4096x1x1024 : Shape := ⟨3, ![4096, 1, 1024]⟩
abbrev S_ : Shape := ⟨0, ![]⟩
abbrev S1 : Shape := ⟨1, ![1]⟩
abbrev S1x1x1024 : Shape := ⟨3, ![1, 1, 1024]⟩
abbrev S2048x8x1024 : Shape := ⟨3, ![2048, 8, 1024]⟩

abbrev nBuf : Space → Nat
  | .hbm => 5
  | .vmem => 2
  | .smem => 1
  | _ => 0

abbrev bufTy : (tb : Table) → Fin (tcTables nBuf tb) → BufTy
  | .hbm, ⟨0, _⟩ => ⟨S2048x8, .i32⟩
  | .hbm, ⟨1, _⟩ => ⟨S50257x1024, .f32⟩
  | .hbm, ⟨2, _⟩ => ⟨S50257x1x1024, .f32⟩
  | .hbm, ⟨3, _⟩ => ⟨S16384x1x1024, .f32⟩
  | .hbm, ⟨4, _⟩ => ⟨S2048x8x1024, .f32⟩
  | .local _ .vmem, ⟨0, _⟩ => ⟨S4096x1x1024, .f32⟩
  | .local _ .vmem, ⟨1, _⟩ => ⟨S4096x1x1024, .f32⟩
  | .local _ .smem, ⟨0, _⟩ => ⟨S16384, .i32⟩
  | _, _ => ⟨S2048x8, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c512_i32 : BitVec 32 := 512#32
  let v1 : BitVec 32 := Scalar.addi c0_i32 c512_i32
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c4096_i32 : BitVec 32 := 4096#32
  let v0 : BitVec 32 := Scalar.muli arg0 c4096_i32
  let c0_i32 : BitVec 32 := 0#32
  let c1_i32 : BitVec 32 := 1#32
  let arg5 : BitVec 32 := Scf.iv c0_i32 c1_i32 k0_t1
  let c8_i32 : BitVec 32 := 8#32
  let v3 : BitVec 32 := Scalar.muli arg5 c8_i32
  let v4 : BitVec 32 := Scalar.addi v0 v3
  let c0_i32_4 : BitVec 32 := 0#32
  let v5 : BitVec 32 := Scalar.addi v4 c0_i32_4
  let v6 : Index := Scalar.indexCast v5
  ![v6.toNat]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let c8_i32_5 : BitVec 32 := 8#32
  let v8 : BitVec 32 := Scalar.muli arg5 c8_i32_5
  let c0_i32_6 : BitVec 32 := 0#32
  let v9 : BitVec 32 := Scalar.addi v8 c0_i32_6
  let c0_i32_7 : BitVec 32 := 0#32
  let c0_i32_8 : BitVec 32 := 0#32
  ![v9.toNat, 0, 0]
def k0_off3 (v7 : BitVec 32) : Fin 3 → Nat :=
  let c0_i32_9 : BitVec 32 := 0#32
  let c0_i32_10 : BitVec 32 := 0#32
  ![v7.toNat, 0, 0]

def k0_chk1 (v7 : BitVec 32) : Prop :=
  (∀ a, (k0_off3 v7) a + S1x1x1024.size a ≤ S50257x1x1024.size a)
theorem k0_off3_inb : ∀ (v7 : BitVec 32) (k0_hw1 : k0_chk1 v7), ∀ a, (k0_off3 v7) a + S1x1x1024.size a ≤ S50257x1x1024.size a := fun v7 k0_hw1 => k0_hw1

def k0_off4 (i : grid0.Coords) (k0_t1 : Fin k0_t1_loop.trips) : Fin 1 → Nat :=
  let arg0 : BitVec 32 := BitVec.ofNat 32 (i 0).val
  let c4096_i32 : BitVec 32 := 4096#32
  let v0 : BitVec 32 := Scalar.muli arg0 c4096_i32
  let c0_i32 : BitVec 32 := 0#32
  let c1_i32 : BitVec 32 := 1#32
  let arg5 : BitVec 32 := Scf.iv c0_i32 c1_i32 k0_t1
  let c8_i32 : BitVec 32 := 8#32
  let v3 : BitVec 32 := Scalar.muli arg5 c8_i32
  let v4 : BitVec 32 := Scalar.addi v0 v3
  let c1_i32_11 : BitVec 32 := 1#32
  let v12 : BitVec 32 := Scalar.addi v4 c1_i32_11
  let v13 : Index := Scalar.indexCast v12
  ![v13.toNat]
def k0_off5 (k0_t1 : Fin k0_t1_loop.trips) : Fin 3 → Nat :=
  let c0_i32 : BitVec 32 := 0#32
  let c1_i32 : BitVec 32 := 1#32
  let arg5 : BitVec 32 := Scf.iv c0_i32 c1_i32 k0_t1
  let c8_i32_12 : BitVec 32 := 8#32
  let v15 : BitVec 32 := Scalar.muli arg5 c8_i32_12
  let c1_i32_13 : BitVec 32 := 1#32
  let v16 : BitVec 32 := Scalar.addi v15 c1_i32_13
  let c0_i32_14 : BitVec 32 := 0#32
  let c0_i32_15 : BitVec 32 := 0#32
  ![v16.toNat, 0, 0]
def k0_off6 (v14 : BitVec 32) : Fin 3 → Nat :=
  let c0_i32_16 : BitVec 32 := 0#32
  let c0_i32_17 : BitVec 32 := 0#32
  ![v14.toNat, 0, 0]

def k0_chk2 (v14 : BitVec 32) : Prop :=
  (∀ a, (k0_off6 v14) a + S1x1x1024.size a ≤ S50257x1x1024.size a)
theorem k0_off6_inb : ∀ (v14 : BitVec 32) (k0_hw2 : k0_chk2 v14), ∀ a, (k0_off6 v14) a + S1x1x1024.size a ≤ S50257x1x1024.size a := fun v14 k0_hw2 => k0_hw2

def k0_off7 (i : grid0.Coords) (k0_t1 : Fin k0_t1_loop.trips) : Fin 1 → Nat :=
  let arg0 : BitVec 32 := BitVec.ofNat 32 (i 0).val
  let c4096_i32 : BitVec 32 := 4096#32
  let v0 : BitVec 32 := Scalar.muli arg0 c4096_i32
  let c0_i32 : BitVec 32 := 0#32
  let c1_i32 : BitVec 32 := 1#32
  let arg5 : BitVec 32 := Scf.iv c0_i32 c1_i32 k0_t1
  let c8_i32 : BitVec 32 := 8#32
  let v3 : BitVec 32 := Scalar.muli arg5 c8_i32
  let v4 : BitVec 32 := Scalar.addi v0 v3
  let c2_i32 : BitVec 32 := 2#32
  let v19 : BitVec 32 := Scalar.addi v4 c2_i32
  let v20 : Index := Scalar.indexCast v19
  ![v20.toNat]
def k0_off8 (k0_t1 : Fin k0_t1_loop.trips) : Fin 3 → Nat :=
  let c0_i32 : BitVec 32 := 0#32
  let c1_i32 : BitVec 32 := 1#32
  let arg5 : BitVec 32 := Scf.iv c0_i32 c1_i32 k0_t1
  let c8_i32_18 : BitVec 32 := 8#32
  let v22 : BitVec 32 := Scalar.muli arg5 c8_i32_18
  let c2_i32_19 : BitVec 32 := 2#32
  let v23 : BitVec 32 := Scalar.addi v22 c2_i32_19
  let c0_i32_20 : BitVec 32 := 0#32
  let c0_i32_21 : BitVec 32 := 0#32
  ![v23.toNat, 0, 0]
def k0_off9 (v21 : BitVec 32) : Fin 3 → Nat :=
  let c0_i32_22 : BitVec 32 := 0#32
  let c0_i32_23 : BitVec 32 := 0#32
  ![v21.toNat, 0, 0]

def k0_chk3 (v21 : BitVec 32) : Prop :=
  (∀ a, (k0_off9 v21) a + S1x1x1024.size a ≤ S50257x1x1024.size a)
theorem k0_off9_inb : ∀ (v21 : BitVec 32) (k0_hw3 : k0_chk3 v21), ∀ a, (k0_off9 v21) a + S1x1x1024.size a ≤ S50257x1x1024.size a := fun v21 k0_hw3 => k0_hw3

def k0_off10 (i : grid0.Coords) (k0_t1 : Fin k0_t1_loop.trips) : Fin 1 → Nat :=
  let arg0 : BitVec 32 := BitVec.ofNat 32 (i 0).val
  let c4096_i32 : BitVec 32 := 4096#32
  let v0 : BitVec 32 := Scalar.muli arg0 c4096_i32
  let c0_i32 : BitVec 32 := 0#32
  let c1_i32 : BitVec 32 := 1#32
  let arg5 : BitVec 32 := Scf.iv c0_i32 c1_i32 k0_t1
  let c8_i32 : BitVec 32 := 8#32
  let v3 : BitVec 32 := Scalar.muli arg5 c8_i32
  let v4 : BitVec 32 := Scalar.addi v0 v3
  let c3_i32 : BitVec 32 := 3#32
  let v26 : BitVec 32 := Scalar.addi v4 c3_i32
  let v27 : Index := Scalar.indexCast v26
  ![v27.toNat]
def k0_off11 (k0_t1 : Fin k0_t1_loop.trips) : Fin 3 → Nat :=
  let c0_i32 : BitVec 32 := 0#32
  let c1_i32 : BitVec 32 := 1#32
  let arg5 : BitVec 32 := Scf.iv c0_i32 c1_i32 k0_t1
  let c8_i32_24 : BitVec 32 := 8#32
  let v29 : BitVec 32 := Scalar.muli arg5 c8_i32_24
  let c3_i32_25 : BitVec 32 := 3#32
  let v30 : BitVec 32 := Scalar.addi v29 c3_i32_25
  let c0_i32_26 : BitVec 32 := 0#32
  let c0_i32_27 : BitVec 32 := 0#32
  ![v30.toNat, 0, 0]
def k0_off12 (v28 : BitVec 32) : Fin 3 → Nat :=
  let c0_i32_28 : BitVec 32 := 0#32
  let c0_i32_29 : BitVec 32 := 0#32
  ![v28.toNat, 0, 0]

def k0_chk4 (v28 : BitVec 32) : Prop :=
  (∀ a, (k0_off12 v28) a + S1x1x1024.size a ≤ S50257x1x1024.size a)
theorem k0_off12_inb : ∀ (v28 : BitVec 32) (k0_hw4 : k0_chk4 v28), ∀ a, (k0_off12 v28) a + S1x1x1024.size a ≤ S50257x1x1024.size a := fun v28 k0_hw4 => k0_hw4

def k0_off13 (i : grid0.Coords) (k0_t1 : Fin k0_t1_loop.trips) : Fin 1 → Nat :=
  let arg0 : BitVec 32 := BitVec.ofNat 32 (i 0).val
  let c4096_i32 : BitVec 32 := 4096#32
  let v0 : BitVec 32 := Scalar.muli arg0 c4096_i32
  let c0_i32 : BitVec 32 := 0#32
  let c1_i32 : BitVec 32 := 1#32
  let arg5 : BitVec 32 := Scf.iv c0_i32 c1_i32 k0_t1
  let c8_i32 : BitVec 32 := 8#32
  let v3 : BitVec 32 := Scalar.muli arg5 c8_i32
  let v4 : BitVec 32 := Scalar.addi v0 v3
  let c4_i32 : BitVec 32 := 4#32
  let v33 : BitVec 32 := Scalar.addi v4 c4_i32
  let v34 : Index := Scalar.indexCast v33
  ![v34.toNat]
def k0_off14 (k0_t1 : Fin k0_t1_loop.trips) : Fin 3 → Nat :=
  let c0_i32 : BitVec 32 := 0#32
  let c1_i32 : BitVec 32 := 1#32
  let arg5 : BitVec 32 := Scf.iv c0_i32 c1_i32 k0_t1
  let c8_i32_30 : BitVec 32 := 8#32
  let v36 : BitVec 32 := Scalar.muli arg5 c8_i32_30
  let c4_i32_31 : BitVec 32 := 4#32
  let v37 : BitVec 32 := Scalar.addi v36 c4_i32_31
  let c0_i32_32 : BitVec 32 := 0#32
  let c0_i32_33 : BitVec 32 := 0#32
  ![v37.toNat, 0, 0]
def k0_off15 (v35 : BitVec 32) : Fin 3 → Nat :=
  let c0_i32_34 : BitVec 32 := 0#32
  let c0_i32_35 : BitVec 32 := 0#32
  ![v35.toNat, 0, 0]

def k0_chk5 (v35 : BitVec 32) : Prop :=
  (∀ a, (k0_off15 v35) a + S1x1x1024.size a ≤ S50257x1x1024.size a)
theorem k0_off15_inb : ∀ (v35 : BitVec 32) (k0_hw5 : k0_chk5 v35), ∀ a, (k0_off15 v35) a + S1x1x1024.size a ≤ S50257x1x1024.size a := fun v35 k0_hw5 => k0_hw5

def k0_off16 (i : grid0.Coords) (k0_t1 : Fin k0_t1_loop.trips) : Fin 1 → Nat :=
  let arg0 : BitVec 32 := BitVec.ofNat 32 (i 0).val
  let c4096_i32 : BitVec 32 := 4096#32
  let v0 : BitVec 32 := Scalar.muli arg0 c4096_i32
  let c0_i32 : BitVec 32 := 0#32
  let c1_i32 : BitVec 32 := 1#32
  let arg5 : BitVec 32 := Scf.iv c0_i32 c1_i32 k0_t1
  let c8_i32 : BitVec 32 := 8#32
  let v3 : BitVec 32 := Scalar.muli arg5 c8_i32
  let v4 : BitVec 32 := Scalar.addi v0 v3
  let c5_i32 : BitVec 32 := 5#32
  let v40 : BitVec 32 := Scalar.addi v4 c5_i32
  let v41 : Index := Scalar.indexCast v40
  ![v41.toNat]
def k0_off17 (k0_t1 : Fin k0_t1_loop.trips) : Fin 3 → Nat :=
  let c0_i32 : BitVec 32 := 0#32
  let c1_i32 : BitVec 32 := 1#32
  let arg5 : BitVec 32 := Scf.iv c0_i32 c1_i32 k0_t1
  let c8_i32_36 : BitVec 32 := 8#32
  let v43 : BitVec 32 := Scalar.muli arg5 c8_i32_36
  let c5_i32_37 : BitVec 32 := 5#32
  let v44 : BitVec 32 := Scalar.addi v43 c5_i32_37
  let c0_i32_38 : BitVec 32 := 0#32
  let c0_i32_39 : BitVec 32 := 0#32
  ![v44.toNat, 0, 0]
def k0_off18 (v42 : BitVec 32) : Fin 3 → Nat :=
  let c0_i32_40 : BitVec 32 := 0#32
  let c0_i32_41 : BitVec 32 := 0#32
  ![v42.toNat, 0, 0]

def k0_chk6 (v42 : BitVec 32) : Prop :=
  (∀ a, (k0_off18 v42) a + S1x1x1024.size a ≤ S50257x1x1024.size a)
theorem k0_off18_inb : ∀ (v42 : BitVec 32) (k0_hw6 : k0_chk6 v42), ∀ a, (k0_off18 v42) a + S1x1x1024.size a ≤ S50257x1x1024.size a := fun v42 k0_hw6 => k0_hw6

def k0_off19 (i : grid0.Coords) (k0_t1 : Fin k0_t1_loop.trips) : Fin 1 → Nat :=
  let arg0 : BitVec 32 := BitVec.ofNat 32 (i 0).val
  let c4096_i32 : BitVec 32 := 4096#32
  let v0 : BitVec 32 := Scalar.muli arg0 c4096_i32
  let c0_i32 : BitVec 32 := 0#32
  let c1_i32 : BitVec 32 := 1#32
  let arg5 : BitVec 32 := Scf.iv c0_i32 c1_i32 k0_t1
  let c8_i32 : BitVec 32 := 8#32
  let v3 : BitVec 32 := Scalar.muli arg5 c8_i32
  let v4 : BitVec 32 := Scalar.addi v0 v3
  let c6_i32 : BitVec 32 := 6#32
  let v47 : BitVec 32 := Scalar.addi v4 c6_i32
  let v48 : Index := Scalar.indexCast v47
  ![v48.toNat]
def k0_off20 (k0_t1 : Fin k0_t1_loop.trips) : Fin 3 → Nat :=
  let c0_i32 : BitVec 32 := 0#32
  let c1_i32 : BitVec 32 := 1#32
  let arg5 : BitVec 32 := Scf.iv c0_i32 c1_i32 k0_t1
  let c8_i32_42 : BitVec 32 := 8#32
  let v50 : BitVec 32 := Scalar.muli arg5 c8_i32_42
  let c6_i32_43 : BitVec 32 := 6#32
  let v51 : BitVec 32 := Scalar.addi v50 c6_i32_43
  let c0_i32_44 : BitVec 32 := 0#32
  let c0_i32_45 : BitVec 32 := 0#32
  ![v51.toNat, 0, 0]
def k0_off21 (v49 : BitVec 32) : Fin 3 → Nat :=
  let c0_i32_46 : BitVec 32 := 0#32
  let c0_i32_47 : BitVec 32 := 0#32
  ![v49.toNat, 0, 0]

def k0_chk7 (v49 : BitVec 32) : Prop :=
  (∀ a, (k0_off21 v49) a + S1x1x1024.size a ≤ S50257x1x1024.size a)
theorem k0_off21_inb : ∀ (v49 : BitVec 32) (k0_hw7 : k0_chk7 v49), ∀ a, (k0_off21 v49) a + S1x1x1024.size a ≤ S50257x1x1024.size a := fun v49 k0_hw7 => k0_hw7

def k0_off22 (i : grid0.Coords) (k0_t1 : Fin k0_t1_loop.trips) : Fin 1 → Nat :=
  let arg0 : BitVec 32 := BitVec.ofNat 32 (i 0).val
  let c4096_i32 : BitVec 32 := 4096#32
  let v0 : BitVec 32 := Scalar.muli arg0 c4096_i32
  let c0_i32 : BitVec 32 := 0#32
  let c1_i32 : BitVec 32 := 1#32
  let arg5 : BitVec 32 := Scf.iv c0_i32 c1_i32 k0_t1
  let c8_i32 : BitVec 32 := 8#32
  let v3 : BitVec 32 := Scalar.muli arg5 c8_i32
  let v4 : BitVec 32 := Scalar.addi v0 v3
  let c7_i32 : BitVec 32 := 7#32
  let v54 : BitVec 32 := Scalar.addi v4 c7_i32
  let v55 : Index := Scalar.indexCast v54
  ![v55.toNat]
def k0_off23 (k0_t1 : Fin k0_t1_loop.trips) : Fin 3 → Nat :=
  let c0_i32 : BitVec 32 := 0#32
  let c1_i32 : BitVec 32 := 1#32
  let arg5 : BitVec 32 := Scf.iv c0_i32 c1_i32 k0_t1
  let c8_i32_48 : BitVec 32 := 8#32
  let v57 : BitVec 32 := Scalar.muli arg5 c8_i32_48
  let c7_i32_49 : BitVec 32 := 7#32
  let v58 : BitVec 32 := Scalar.addi v57 c7_i32_49
  let c0_i32_50 : BitVec 32 := 0#32
  let c0_i32_51 : BitVec 32 := 0#32
  ![v58.toNat, 0, 0]
def k0_off24 (v56 : BitVec 32) : Fin 3 → Nat :=
  let c0_i32_52 : BitVec 32 := 0#32
  let c0_i32_53 : BitVec 32 := 0#32
  ![v56.toNat, 0, 0]

def k0_chk8 (v56 : BitVec 32) : Prop :=
  (∀ a, (k0_off24 v56) a + S1x1x1024.size a ≤ S50257x1x1024.size a)
theorem k0_off24_inb : ∀ (v56 : BitVec 32) (k0_hw8 : k0_chk8 v56), ∀ a, (k0_off24 v56) a + S1x1x1024.size a ≤ S50257x1x1024.size a := fun v56 k0_hw8 => k0_hw8

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S2048x8 : Shape := ⟨2, ![2048, 8]⟩
abbrev S50257x1024 : Shape := ⟨2, ![50257, 1024]⟩
abbrev S_ : Shape := ⟨0, ![]⟩
abbrev S2048x8x1 : Shape := ⟨3, ![2048, 8, 1]⟩
abbrev S1 : Shape := ⟨1, ![1]⟩
abbrev S1x1x1 : Shape := ⟨3, ![1, 1, 1]⟩
abbrev S2048x8x1024 : Shape := ⟨3, ![2048, 8, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x8, .i32⟩
  | .hbm, ⟨1, _⟩ => ⟨S50257x1024, .f32⟩
  | .hbm, ⟨2, _⟩ => ⟨S_, .i32⟩
  | .hbm, ⟨3, _⟩ => ⟨S2048x8, .i32⟩
  | .hbm, ⟨4, _⟩ => ⟨S2048x8, .i1⟩
  | .hbm, ⟨5, _⟩ => ⟨S_, .i32⟩
  | .hbm, ⟨6, _⟩ => ⟨S2048x8, .i32⟩
  | .hbm, ⟨7, _⟩ => ⟨S2048x8, .i32⟩
  | .hbm, ⟨8, _⟩ => ⟨S2048x8, .i32⟩
  | .hbm, ⟨9, _⟩ => ⟨S2048x8x1, .i32⟩
  | .hbm, ⟨10, _⟩ => ⟨S1, .i32⟩
  | .hbm, ⟨11, _⟩ => ⟨S_, .i32⟩
  | .hbm, ⟨12, _⟩ => ⟨S2048x8x1, .i32⟩
  | .hbm, ⟨13, _⟩ => ⟨S2048x8x1, .i1⟩
  | .hbm, ⟨14, _⟩ => ⟨S1x1x1, .i32⟩
  | .hbm, ⟨15, _⟩ => ⟨S2048x8x1, .i32⟩
  | .hbm, ⟨16, _⟩ => ⟨S2048x8x1, .i1⟩
  | .hbm, ⟨17, _⟩ => ⟨S2048x8x1, .i1⟩
  | .hbm, ⟨18, _⟩ => ⟨S_, .i1⟩
  | .hbm, ⟨19, _⟩ => ⟨S2048x8, .i1⟩
  | .hbm, ⟨20, _⟩ => ⟨S2048x8x1024, .f32⟩
  | .hbm, ⟨21, _⟩ => ⟨S2048x8x1024, .i1⟩
  | .hbm, ⟨22, _⟩ => ⟨S_, .f32⟩
  | .hbm, ⟨23, _⟩ => ⟨S2048x8x1024, .f32⟩
  | .hbm, ⟨24, _⟩ => ⟨S2048x8x1024, .f32⟩
  | _, _ => ⟨S2048x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Rows.lean ====
/-
  The rows of the gather: row `r` of an output block, the row of the weight array a word names, and the
  offsets the kernel computes, in closed form.
-/
module

public import proofs.«01_k».proof.Proof.Gen.Kernel.Skeleton
public import Idealize.ShloMosaic.Lib.Batch
public import Idealize.ShloMosaic.Lib.Ring
public import Idealize.ShloMosaic.Lib.Pipeline.Frame

@[expose] public section

set_option maxRecDepth 16384

noncomputable section

namespace Cert.Kernel.Gather

open Cert.Kernel Cert.Kernel.Gen
open Idealize.ShloMosaic Idealize.ShloMosaic.TcCoe

/-! ## Rows of an output block -/

/-- A block of the output, as the kernel names it. -/
abbrev OutM : Type := Memref sig .tc .vmem S4096x1x1024 .f32

theorem row_inb (r : Fin 4096) : ∀ a, (![r.val, 0, 0] : Fin 3 → Nat) a + S1x1x1024.size a ≤ S4096x1x1024.size a := by
  have := r.isLt
  intro a; fin_cases a
  · show r.val + 1 ≤ 4096; omega
  · show 0 + 1 ≤ 1; omega
  · show 0 + 1024 ≤ 1024; omega

/-- Row `r`'s rectangle in a block. -/
@[implicit_reducible] def rowRect (r : Fin 4096) : Rect S4096x1x1024 :=
  Rect.unit (s := S4096x1x1024) ![r.val, 0, 0] S1x1x1024.size (row_inb r)

/-- Row `r` of a block. -/
def rowM (m : OutM) (r : Fin 4096) : Memref sig .tc .vmem S1x1x1024 .f32 := m.slice (rowRect r) (fun _ => rfl)

theorem mem_rowRect {r : Fin 4096} {y : S4096x1x1024.Idx} : y ∈ (rowRect r).set ↔ (y 0).val = r.val := by
  rw [rowRect, Rect.mem_set_unit]
  constructor
  · intro h
    have h0 := h 0
    have e1 : (![r.val, 0, 0] : Fin 3 → Nat) 0 = r.val := rfl
    have e2 : S1x1x1024.size 0 = 1 := rfl
    rw [e1, e2] at h0
    omega
  · intro h a
    have hb := (y a).isLt
    fin_cases a
    · show r.val ≤ (y 0).val ∧ (y 0).val < r.val + 1; omega
    · have hb' : (y 1).val < 1 := hb
      show 0 ≤ (y 1).val ∧ (y 1).val < 0 + 1; omega
    · have hb' : (y 2).val < 1024 := hb
      show 0 ≤ (y 2).val ∧ (y 2).val < 0 + 1024; omega

/-- Row `r`'s elements in the block's buffer. -/
def rowSet (m : OutM) (r : Fin 4096) : Finset m.view.ty.Idx := (rowRect r).set.map m.view.emb

theorem rowM_set (m : OutM) (r : Fin 4096) : (rowM m r).view.set = rowSet m r :=
  View.set_slice m.view (rowRect r)

theorem rowSet_disjoint (m : OutM) : ∀ r ∈ (Finset.univ : Finset (Fin 4096)), ∀ r' ∈ (Finset.univ : Finset (Fin 4096)), r ≠ r' →
    Disjoint (rowSet m r) (rowSet m r') := by
  intro r _ r' _ h
  rw [rowSet, rowSet, Finset.disjoint_map, Finset.disjoint_left]
  intro y hy hy'
  rw [mem_rowRect] at hy hy'
  exact h (Fin.ext (hy.symm.trans hy'))

theorem rowSet_cover (m : OutM) : (Finset.univ : Finset (Fin 4096)).biUnion (rowSet m) = m.view.set := by
  ext i
  rw [Finset.mem_biUnion]
  constructor
  · rintro ⟨r, -, h⟩
    obtain ⟨y, -, rfl⟩ := Finset.mem_map.mp h
    exact m.view.emb_mem_set y
  · intro h
    obtain ⟨y, -, rfl⟩ := Finset.mem_map.mp h
    exact ⟨⟨(y 0).val, (y 0).isLt⟩, Finset.mem_univ _, Finset.mem_map.mpr ⟨y, mem_rowRect.mpr rfl, rfl⟩⟩

/-! ## Rows of the weight array -/

/-- The row a word names; a word past the array names the last row. -/
abbrev clampRow (n : ℕ) : ℕ := min n 50256

theorem src_inb (n : ℕ) : ∀ a, (![clampRow n, 0, 0] : Fin 3 → Nat) a + S1x1x1024.size a ≤ S50257x1x1024.size a := by
  intro a; fin_cases a
  · show min n 50256 + 1 ≤ 50257; omega
  · show 0 + 1 ≤ 1; omega
  · show 0 + 1024 ≤ 1024; omega

/-- The rectangle of the row a word names. -/
@[implicit_reducible] def srcRect (n : ℕ) : Rect S50257x1x1024 :=
  Rect.unit (s := S50257x1x1024) ![clampRow n, 0, 0] S1x1x1024.size (src_inb n)

/-- The row of the weight array a word names. -/
def srcM (n : ℕ) : Memref sig .tc .hbm S1x1x1024 .f32 := (Memref.whole main_v1).slice (srcRect n) (fun _ => rfl)

/-- The element of the weight array at a word's row and a column. -/
def srcIdx (n : ℕ) (x : Fin 1024) : S50257x1x1024.Idx :=
  Fin.cons ⟨clampRow n, by show min n 50256 < 50257; omega⟩ (Fin.cons ⟨0, by show 0 < 1; omega⟩ (Fin.cons ⟨x.val, x.isLt⟩ finZeroElim))

/-! ## The table's words -/

theorem tab_lt (i : grid0.Coords) (r : Fin 4096) : 4096 * (i 0).val + r.val < 16384 := by
  have h : (i 0).val < 4 := (i 0).isLt
  have := r.isLt
  omega

/-- The index of the table's word for row `r` of block `i`. -/
def tabIdx (i : grid0.Coords) (r : Fin 4096) : S16384.Idx := fun a => ⟨4096 * (i 0).val + r.val, by
  have h := tab_lt i r
  fin_cases a
  exact h⟩

/-- The word for row `r` of block `i`, as a number. -/
def word (t : S16384.Idx → BitVec 32) (i : grid0.Coords) (r : Fin 4096) : ℕ := (t (tabIdx i r)).toNat

variable {F : FTy → Type}

/-- What block `i` of the output holds at the end: at row `r`, the row of the weight array that the table's word
    names. -/
def gathered (t : S16384.Idx → BitVec 32) (w : S50257x1x1024.Idx → Elt F .f32) (i : grid0.Coords) : S4096x1x1024.Idx → Elt F .f32 :=
  fun y => w (srcIdx (word t i ⟨(y 0).val, (y 0).isLt⟩) ⟨(y 2).val, (y 2).isLt⟩)

/-! ## The loop's numbers -/

theorem trips_eq : k0_t1_loop.trips = 512 := by decide +kernel

theorem trip_lt (t : Fin k0_t1_loop.trips) : t.val < 512 := lt_of_lt_of_eq t.isLt trips_eq

theorem row_lt (t : Fin k0_t1_loop.trips) (j : Fin 8) : 8 * t.val + j.val < 4096 := by
  have h := trip_lt t
  have := j.isLt
  omega

/-- Row `8 t + j` of a block: the row trip `t`'s copy `j` fills. -/
def rowOf (t : Fin k0_t1_loop.trips) (j : Fin 8) : Fin 4096 := ⟨8 * t.val + j.val, row_lt t j⟩

theorem row_num : ∀ (t : Fin 512) (j : Fin 8),
    (Scalar.addi (Scalar.muli (Scf.iv (0#32) (1#32) t.val) 8#32) (BitVec.ofNat 32 j.val)).toNat = 8 * t.val + j.val := by
  decide +kernel

theorem tab_num : ∀ (a : Fin 4) (t : Fin 512) (j : Fin 8),
    (Scalar.indexCast (Scalar.addi (Scalar.addi (Scalar.muli (BitVec.ofNat 32 a.val) 4096#32) (Scalar.muli (Scf.iv (0#32) (1#32) t.val) 8#32)) (BitVec.ofNat 32 j.val)) : Index).toNat
      = 4096 * a.val + (8 * t.val + j.val) := by
  decide +kernel

theorem row_off (t : Fin k0_t1_loop.trips) (j : Fin 8) :
    (![(Scalar.addi (Scalar.muli (Scf.iv (0#32) (1#32) t.val) 8#32) (BitVec.ofNat 32 j.val)).toNat, 0, 0] : Fin 3 → Nat)
      = ![(rowOf t j).val, 0, 0] := by
  rw [row_num ⟨t.val, trip_lt t⟩ j]; rfl

theorem tab_off (i : grid0.Coords) (t : Fin k0_t1_loop.trips) (j : Fin 8) :
    (![(Scalar.indexCast (Scalar.addi (Scalar.addi (Scalar.muli (BitVec.ofNat 32 (i 0).val) 4096#32) (Scalar.muli (Scf.iv (0#32) (1#32) t.val) 8#32)) (BitVec.ofNat 32 j.val)) : Index).toNat] : Fin 1 → Nat)
      = ![4096 * (i 0).val + (rowOf t j).val] := by
  rw [tab_num ⟨(i 0).val, (i 0).isLt⟩ ⟨t.val, trip_lt t⟩ j]; rfl

theorem off1 (i : grid0.Coords) (t) : k0_off1 i t = ![4096 * (i 0).val + (rowOf t 0).val] := tab_off i t 0
theorem off4 (i : grid0.Coords) (t) : k0_off4 i t = ![4096 * (i 0).val + (rowOf t 1).val] := tab_off i t 1
theorem off7 (i : grid0.Coords) (t) : k0_off7 i t = ![4096 * (i 0).val + (rowOf t 2).val] := tab_off i t 2
theorem off10 (i : grid0.Coords) (t) : k0_off10 i t = ![4096 * (i 0).val + (rowOf t 3).val] := tab_off i t 3
theorem off13 (i : grid0.Coords) (t) : k0_off13 i t = ![4096 * (i 0).val + (rowOf t 4).val] := tab_off i t 4
theorem off16 (i : grid0.Coords) (t) : k0_off16 i t = ![4096 * (i 0).val + (rowOf t 5).val] := tab_off i t 5
theorem off19 (i : grid0.Coords) (t) : k0_off19 i t = ![4096 * (i 0).val + (rowOf t 6).val] := tab_off i t 6
theorem off22 (i : grid0.Coords) (t) : k0_off22 i t = ![4096 * (i 0).val + (rowOf t 7).val] := tab_off i t 7
theorem off2 (t) : k0_off2 t = ![(rowOf t 0).val, 0, 0] := row_off t 0
theorem off5 (t) : k0_off5 t = ![(rowOf t 1).val, 0, 0] := row_off t 1
theorem off8 (t) : k0_off8 t = ![(rowOf t 2).val, 0, 0] := row_off t 2
theorem off11 (t) : k0_off11 t = ![(rowOf t 3).val, 0, 0] := row_off t 3
theorem off14 (t) : k0_off14 t = ![(rowOf t 4).val, 0, 0] := row_off t 4
theorem off17 (t) : k0_off17 t = ![(rowOf t 5).val, 0, 0] := row_off t 5
theorem off20 (t) : k0_off20 t = ![(rowOf t 6).val, 0, 0] := row_off t 6
theorem off23 (t) : k0_off23 t = ![(rowOf t 7).val, 0, 0] := row_off t 7

/-- A destination slice at a row's offset is that row. -/
theorem slice_row (m : OutM) {off : Fin 3 → Nat} {r : Fin 4096} (h : off = ![r.val, 0, 0])
    (p : ∀ a, off a + S1x1x1024.size a ≤ S4096x1x1024.size a) (hs) :
    m.slice (Rect.unit (s := S4096x1x1024) off S1x1x1024.size p) hs = rowM m r :=
  Memref.slice_unit_congr m h p _ hs (fun _ => rfl)

/-- A source slice at a word's row is the row the word names. -/
theorem slice_src {off : Fin 3 → Nat} {n : ℕ} (hn : n < 50257) (h : off = ![n, 0, 0])
    (p : ∀ a, off a + S1x1x1024.size a ≤ S50257x1x1024.size a) (hs) :
    (Memref.whole main_v1).slice (Rect.unit (s := S50257x1x1024) off S1x1x1024.size p) hs = srcM n := by
  have e : clampRow n = n := by show min n 50256 = n; omega
  exact Memref.slice_unit_congr _ (h.trans (by rw [e])) p _ hs (fun _ => rfl)

/-- A word under the array's extent passes the kernel's check. -/
theorem word_chk {n : ℕ} (hn : n < 50257) : ∀ a, (![n, 0, 0] : Fin 3 → Nat) a + S1x1x1024.size a ≤ S50257x1x1024.size a := by
  intro a; fin_cases a
  · show n + 1 ≤ 50257; omega
  · show 0 + 1 ≤ 1; omega
  · show 0 + 1024 ≤ 1024; omega

/-! ## What a row's copy leaves -/

theorem gathered_row (t : S16384.Idx → BitVec 32) (w : S50257x1x1024.Idx → Elt F .f32) (i : grid0.Coords) (r : Fin 4096) (x : S1x1x1024.Idx) :
    gathered t w i ((rowRect r).emb x) = w ((srcRect (word t i r)).emb x) := by
  have h0 : (x 0).val < 1 := (x 0).isLt
  have h1 : (x 1).val < 1 := (x 1).isLt
  have hr : (⟨((rowRect r).emb x 0).val, ((rowRect r).emb x 0).isLt⟩ : Fin 4096) = r := Fin.ext (by
    show r.val + 1 * (x 0).val = r.val; omega)
  unfold gathered
  rw [hr]
  congr 1
  funext a
  apply Fin.ext
  fin_cases a
  · show clampRow (word t i r) = clampRow (word t i r) + 1 * (x 0).val; omega
  · show 0 = 0 + 1 * (x 1).val; omega
  · show 0 + 1 * (x 2).val = 0 + 1 * (x 2).val; rfl

end Cert.Kernel.Gather
-- ==== Proof.Body.lean ====
/-
  One grid point of the gather: 4096 row copies started on one semaphore by the counted loop, then one wait for
  the whole block. The block ends holding the gathered rows.
-/
module

public import proofs.«01_k».proof.Proof.Rows
public import Idealize.ShloMosaic.Lib.Pipeline.FrameBody
public import Idealize.ShloMosaic.Lib.Tactic

@[expose] public section

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

/-- The proof's algebra. -/
local notation "𝕄" => MT nD τ sig Unit (Elt F) ℕ (Pipeline.UD sig nD τ) ℕ

/-- The weight array's contents. -/
abbrev Wt (F : FTy → Type) : Type := S50257x1x1024.Idx → Elt F .f32

/-- The table's contents. -/
abbrev Tab : Type := S16384.Idx → BitVec 32

/-- A row's credit on the semaphore. -/
abbrev rowCredit : ℕ := RefSig.tileCredit S1x1x1024 .f32

theorem rowCredit_pos : 0 < rowCredit := RefSig.tileCredit_pos _ _ (by decide)

theorem blockCredit : 0 + RefSig.tileCredit S4096x1x1024 .f32 = rowCredit * 4096 := by decide +kernel

section Point

variable (c : Dev nD) (m : OutM) (hm : m.IsWhole) (t : Tab) (w : Wt F) (i : grid0.Coords)

/-- The read permission lent to row `r`'s copy: the row it reads, under the share numbered `r`. -/
def lent (r : Fin 4096) : sProp 𝕄 :=
  (srcM (word t i r)).view.loc (c : Thread nD τ) ↦[(srcM (word t i r)).view.set]{shareTokN fullShare r.val} w

/-- A copy not yet started: its row of the block, at what the block held, and its read permission. -/
def todo (f : Buf (Elt F) (m.view.loc (c : Thread nD τ))) (r : Fin 4096) : sProp 𝕄 :=
  iprop((m.view.loc (c : Thread nD τ) ↦[rowSet m r]{fullShare} f) ∗ lent c t w i r)

/-- What a copy hands back: its row of the block, gathered, and its read permission. -/
def done (r : Fin 4096) : sProp 𝕄 :=
  iprop((m.view.loc (c : Thread nD τ) ↦[rowSet m r]{fullShare} (hm.unread (gathered t w i))) ∗ lent c t w i r)

theorem storable_pt (ℓ : Loc nD τ sig) (I : Finset (Idx ℓ)) (q : PosShare TreeShare) (f : Buf (Elt F) ℓ) :
    BI.Storable (upEmb : UEmb _ 𝕄) (ℓ ↦[I]{q} f) := inferInstance

instance lent_storable (r : Fin 4096) : BI.Storable (upEmb : UEmb _ 𝕄) (lent c t w i r) := by
  unfold lent; exact storable_pt _ _ _ _

instance block_storable (g : Buf (Elt F) (m.view.loc (c : Thread nD τ))) (r : Fin 4096) :
    BI.Storable (upEmb : UEmb _ 𝕄) (m.view.loc (c : Thread nD τ) ↦[rowSet m r]{fullShare} g) := storable_pt _ _ _ _

instance done_storable (r : Fin 4096) : BI.Storable (upEmb : UEmb _ 𝕄) (done c m hm t w i r) := by
  unfold done; exact BI.Storable.sep _ _ _

theorem row_amount (r : Fin 4096) : (rowM m r).view.amount (.dma cc0_scratch0.sem) = rowCredit := rfl

/-- The copies on the one semaphore, `k` of them started. -/
abbrev flight (k : ℕ) : sProp 𝕄 :=
  Batch (countersEmb (U := Pipeline.UD sig nD τ)) (c : Thread nD τ) (.dma cc0_scratch0.sem) () rowCredit (done c m hm t w i) k 0

/-- The state with `k` copies started. -/
def issued (f : Buf (Elt F) (m.view.loc (c : Thread nD τ))) (k : ℕ) : sProp 𝕄 :=
  iprop(flight c m hm t w i k ∗ bigSep (Ring.rangeSet 4096 k 4096) (todo c m t w i f))

/-- Contents that read alike at an element are alike there. -/
theorem eq_of_read_eq {κ : Kind} {sp : Space} {s : Shape} {e : EltTy} (v : View sig κ sp s e) {f g : v.ty.Contents (Elt F)} {x : s.Idx}
    (h : v.read (Elt F) f x = v.read (Elt F) g x) : f (v.emb x) = g (v.emb x) := by
  rw [View.read_apply, View.read_apply] at h
  exact cast_inj _ |>.mp h

/-- What a row's copy writes is the gathered row. -/
theorem landed (f : Buf (Elt F) (m.view.loc (c : Thread nD τ))) (r : Fin 4096) :
    ∀ j ∈ rowSet m r, (rowM m r).view.write (Elt F) f ((ReadAs.same (e := .f32)).apply ((srcM (word t i r)).view.read (Elt F) w)) Finset.univ j
      = hm.unread (gathered t w i) j := by
  intro j hj
  rw [← rowM_set] at hj
  obtain ⟨x, -, rfl⟩ := Finset.mem_map.mp hj
  have h1 := congrFun ((rowM m r).view.read_write_univ f ((ReadAs.same (e := .f32)).apply ((srcM (word t i r)).view.read (Elt F) w))) x
  have h2 : (rowM m r).view.read (Elt F) (hm.unread (gathered t w i)) x = gathered t w i ((rowRect r).emb x) :=
    congrFun (hm.read_unread (gathered t w i)) ((rowRect r).emb x)
  have h3 : (ReadAs.same (e := .f32)).apply ((srcM (word t i r)).view.read (Elt F) w) x = gathered t w i ((rowRect r).emb x) :=
    (gathered_row t w i r x).symm
  have h4 := h1.trans (h3.trans h2.symm)
  exact eq_of_read_eq (rowM m r).view h4

/-- ONE COPY: it takes its row and its read permission, and one more copy is in flight. -/
theorem wp_issue (f : Buf (Elt F) (m.view.loc (c : Thread nD τ))) (r : Fin 4096) (n : ℕ) (hn : n = r.val)
    {src : Memref sig .tc .hbm S1x1x1024 .f32} {dst : Memref sig .tc .vmem S1x1x1024 .f32}
    (hs : src = srcM (word t i r)) (hd : dst = rowM m r) (hsrc : src.view.WordExact) (hdst : dst.view.WordExact)
    (hsem : DmaTarget.Typed (nD := nD) (τ := τ) (p := .tc) .hbm (.dma cc0_scratch0.sem) (.here dst)) {Q : PUnit → sProp 𝕄} :
    issued c m hm t w i f n
      ⊢ iprop((issued c m hm t w i f (n + 1) -∗ Q ⟨⟩)
          -∗ wp frame (wpE (defs₀ (F := F)) Variants.none (c : Thread nD τ) none) Set.univ
              (Prog.lift (.enqueueDma src (.here dst) (.dma cc0_scratch0.sem) hsrc hdst hsem)) Q) := by
  subst hs hd hn
  unfold issued
  rw [Ring.bigSep_rangeSet_head r.isLt r.isLt]
  iintro ⟨HB, HT, HR⟩ HK
  ihave HT' := (show todo c m t w i f r ⊢ iprop(((rowM m r).view.loc (c : Thread nD τ) ↦[(rowM m r).view.set]{fullShare} f) ∗ lent c t w i r)
    from by unfold todo; rw [rowM_set]; exact .rfl) $$ HT
  icases HT' with ⟨Hd, Hs⟩
  unfold lent
  iapply (Transfers.wp_dmaBatch (countersEmb (U := Pipeline.UD sig nD τ)) Variants.none (c : Thread nD τ) none (src := srcM (word t i r)) (dst := rowM m r) (D := done c m hm t w i) () rowCredit (row_amount m r)
    (Finset.Subset.refl _) r.isLt (Nat.zero_le _) ?hD) $$ [HB Hd Hs]
  case hD =>
    unfold done lent
    iintro ⟨H1, H2⟩
    isplitl [H1]
    · iapply (show ((rowM m r).view.loc (c : Thread nD τ) ↦[(rowM m r).view.set]{fullShare}
          ((rowM m r).view.write (Elt F) f ((ReadAs.same (e := .f32)).apply ((srcM (word t i r)).view.read (Elt F) w)) Finset.univ) : sProp 𝕄)
        ⊢ (m.view.loc (c : Thread nD τ) ↦[rowSet m r]{fullShare} (hm.unread (gathered t w i)))
        from by rw [rowM_set]; exact Entails.of_eq (pointsTo_congr (landed c m hm t w i f r)))
      iexact H1
    · iexact H2
  · isplitl [Hs]; · iexact Hs
    isplitl [Hd]; · iexact Hd
    iexact HB
  · iintro HB
    rw [wp_ret]
    imodintro
    iapply HK
    isplitl [HB] <;> iassumption

/-- The table in memory, under a share. -/
def table (q : PosShare TreeShare) : sProp 𝕄 :=
  (Memref.whole main_v0).view.loc (c : Thread nD τ) ↦[Finset.univ]{q} (t : Buf (Elt F) ((Memref.whole main_v0).view.loc (c : Thread nD τ)))

/-- ONE WORD: the table is read at row `r`'s word and kept. -/
theorem wp_word (q : PosShare TreeShare) (r : Fin 4096) {off : Fin 1 → Nat} (hoff : off = ![4096 * (i 0).val + r.val])
    (hin : ∀ a, off a + S1.size a ≤ S16384.size a) (h1 h2) {Q : Elt F .i32 → sProp 𝕄} :
    table c t q
      ⊢ iprop((table c t q -∗ Q (t (tabIdx i r)))
          -∗ wp frame (wpE (defs₀ (F := F)) Variants.none (c : Thread nD τ) none) Set.univ
              (smemLoad (Memref.whole main_v0) (Rect.unit (s := S16384) off S1.size hin) h1 h2) Q) := by
  subst hoff
  unfold table
  iintro HT HK
  unfold smemLoad
  iapply (wp_smemLoadElt_named Variants.none (c : Thread nD τ) none Set.univ (m := Memref.whole main_v0)
    (r := Rect.unit (s := S16384) ![4096 * (i 0).val + r.val] S1.size hin) (f := t) (Finset.subset_univ _)) $$ HT
  iintro HT %v %hv
  rw [wp_ret]
  imodintro
  have e : v = t (tabIdx i r) := by
    refine hv.trans (congrArg t (funext fun a => Fin.ext ?_))
    fin_cases a
    show 4096 * (i 0).val + r.val + 1 * _ = 4096 * (i 0).val + r.val
    have hx := (Shape.Idx.first (s := S1) (by decide) 0).isLt
    rw [show ∀ n : ℕ, n < 1 → 1 * n = 0 from fun n h => by omega]
    · rfl
    · exact hx
  subst e
  iapply HK
  iexact HT

/-- ONE CHECK that holds. -/
theorem wp_check {P : Prop} (h : P) (d : Decidable P) {Q : PLift P → sProp 𝕄} :
    Q ⟨h⟩ ⊢ wp frame (wpE (defs₀ (F := F)) Variants.none (c : Thread nD τ) none) Set.univ (Prog.lift (TpuEff.assume P d)) Q := by
  iintro H
  iapply (wp_assume Variants.none (c : Thread nD τ) none Set.univ h)
  rw [wp_ret]
  imodintro
  iexact H

/-- ONE TRIP: eight words read, eight copies started. -/
theorem wp_trip (q : PosShare TreeShare) (hok : ∀ j, (t j).toNat < 50257) (f : Buf (Elt F) (m.view.loc (c : Thread nD τ)))
    (h1 h2) (k : Fin k0_t1_loop.trips) (u : Unit) :
    iprop(table c t q ∗ issued c m hm t w i f (8 * k.val))
      ⊢ wp frame (wpE (defs₀ (F := F)) Variants.none (c : Thread nD τ) none) Set.univ
          (k0_t1_body (F := F) i (Memref.whole main_v0) h1 (Memref.whole main_v1) h2 m hm cc0_scratch0
            (Scalar.muli (BitVec.ofNat 32 (i 0).val) 4096#32) k u)
          (fun _ => iprop(table c t q ∗ issued c m hm t w i f (8 * (k.val + 1)))) := by
  unfold k0_t1_body
  rw [k0_part1_eq_skeleton, k0_part2_eq_skeleton]
  unfold k0_part1_skel k0_part2_skel
  simp only [wp_bind]
  iintro ⟨HT, HS⟩
  iapply (wp_word c t i q (rowOf k 0) (off1 i k)) $$ HT; iintro HT
  iapply (wp_check c (P := k0_chk1 (t (tabIdx i (rowOf k 0)))) (word_chk (hok _)))
  iapply (wp_issue c m hm t w i f (rowOf k 0) (8 * k.val) rfl (slice_src (hok _) rfl _ _) (slice_row m (off2 k) _ _)) $$ HS; iintro HS
  iapply (wp_word c t i q (rowOf k 1) (off4 i k)) $$ HT; iintro HT
  iapply (wp_check c (P := k0_chk2 (t (tabIdx i (rowOf k 1)))) (word_chk (hok _)))
  iapply (wp_issue c m hm t w i f (rowOf k 1) (8 * k.val + 1) rfl (slice_src (hok _) rfl _ _) (slice_row m (off5 k) _ _)) $$ HS; iintro HS
  iapply (wp_word c t i q (rowOf k 2) (off7 i k)) $$ HT; iintro HT
  iapply (wp_check c (P := k0_chk3 (t (tabIdx i (rowOf k 2)))) (word_chk (hok _)))
  iapply (wp_issue c m hm t w i f (rowOf k 2) (8 * k.val + 1 + 1) rfl (slice_src (hok _) rfl _ _) (slice_row m (off8 k) _ _)) $$ HS; iintro HS
  iapply (wp_word c t i q (rowOf k 3) (off10 i k)) $$ HT; iintro HT
  iapply (wp_check c (P := k0_chk4 (t (tabIdx i (rowOf k 3)))) (word_chk (hok _)))
  rw [wp_pure]
  imodintro
  iapply (wp_issue c m hm t w i f (rowOf k 3) (8 * k.val + 1 + 1 + 1) rfl (slice_src (hok _) rfl _ _) (slice_row m (off11 k) _ _)) $$ HS; iintro HS
  iapply (wp_word c t i q (rowOf k 4) (off13 i k)) $$ HT; iintro HT
  iapply (wp_check c (P := k0_chk5 (t (tabIdx i (rowOf k 4)))) (word_chk (hok _)))
  iapply (wp_issue c m hm t w i f (rowOf k 4) (8 * k.val + 1 + 1 + 1 + 1) rfl (slice_src (hok _) rfl _ _) (slice_row m (off14 k) _ _)) $$ HS; iintro HS
  iapply (wp_word c t i q (rowOf k 5) (off16 i k)) $$ HT; iintro HT
  iapply (wp_check c (P := k0_chk6 (t (tabIdx i (rowOf k 5)))) (word_chk (hok _)))
  iapply (wp_issue c m hm t w i f (rowOf k 5) (8 * k.val + 1 + 1 + 1 + 1 + 1) rfl (slice_src (hok _) rfl _ _) (slice_row m (off17 k) _ _)) $$ HS; iintro HS
  iapply (wp_word c t i q (rowOf k 6) (off19 i k)) $$ HT; iintro HT
  iapply (wp_check c (P := k0_chk7 (t (tabIdx i (rowOf k 6)))) (word_chk (hok _)))
  iapply (wp_issue c m hm t w i f (rowOf k 6) (8 * k.val + 1 + 1 + 1 + 1 + 1 + 1) rfl (slice_src (hok _) rfl _ _) (slice_row m (off20 k) _ _)) $$ HS; iintro HS
  iapply (wp_word c t i q (rowOf k 7) (off22 i k)) $$ HT; iintro HT
  iapply (wp_check c (P := k0_chk8 (t (tabIdx i (rowOf k 7)))) (word_chk (hok _)))
  iapply (wp_issue c m hm t w i f (rowOf k 7) (8 * k.val + 1 + 1 + 1 + 1 + 1 + 1 + 1) rfl (slice_src (hok _) rfl _ _) (slice_row m (off23 k) _ _)) $$ HS; iintro HS
  rw [wp_pure]
  imodintro
  isplitl [HT]; · iexact HT
  iexact HS

/-- The weight array in memory. -/
def weights : sProp 𝕄 :=
  (Memref.whole main_v1).view.loc (c : Thread nD τ) ↦[Finset.univ]{fullShare} (w : Buf (Elt F) ((Memref.whole main_v1).view.loc (c : Thread nD τ)))

/-- The part of share `r` of the weight array that row `r`'s copy does not read. -/
def unlent (r : Fin 4096) : sProp 𝕄 :=
  (Memref.whole main_v1).view.loc (c : Thread nD τ) ↦[Finset.univ \ (srcM (word t i r)).view.set]{shareTokN fullShare r.val}
    (w : Buf (Elt F) ((Memref.whole main_v1).view.loc (c : Thread nD τ)))

/-- What is left of the weight array after 4096 shares. -/
def leftover : sProp 𝕄 :=
  (Memref.whole main_v1).view.loc (c : Thread nD τ) ↦[Finset.univ]{shareDrop fullShare 4096} (w : Buf (Elt F) ((Memref.whole main_v1).view.loc (c : Thread nD τ)))

/-- The weight array is its 4096 lent rows and what is kept of it. -/
theorem weights_split : (weights c w : sProp 𝕄) ⊣⊢ iprop(leftover c w ∗ bigSep Finset.univ (lent c t w i) ∗ bigSep Finset.univ (unlent c t w i)) := by
  have h1 := pointsTo_toks (nD := nD) (τ := τ) (sig := sig) (Ix := Unit) (Val := Elt F) (Name := ℕ) (U := Pipeline.UD sig nD τ) (Lvl := ℕ)
    (ℓ := (Memref.whole main_v1).view.loc (c : Thread nD τ)) (S := Finset.univ) (f := w) fullShare 4096
  have h2 : bigSep Finset.univ (fun r : Fin 4096 => ((Memref.whole main_v1).view.loc (c : Thread nD τ) ↦[Finset.univ]{shareTok fullShare 4096 r}
      (w : Buf (Elt F) ((Memref.whole main_v1).view.loc (c : Thread nD τ))) : sProp 𝕄))
      = bigSep Finset.univ (fun r => iprop(lent c t w i r ∗ unlent c t w i r)) :=
    bigSep_congr fun r _ => Entails.antisymm (pointsTo_split_subset (Finset.subset_univ (srcM (word t i r)).view.set)).1
      (pointsTo_split_subset (Finset.subset_univ (srcM (word t i r)).view.set)).2
  exact h1.trans (BiEntails.of_eq (congrArg (fun X => iprop(leftover c w ∗ X)) (h2.trans (bigSep_sep Finset.univ (lent c t w i) (unlent c t w i)))))

/-- The block is its 4096 rows. -/
theorem block_rows (g : Buf (Elt F) (m.view.loc (c : Thread nD τ))) :
    (m.view.loc (c : Thread nD τ) ↦[m.view.set]{fullShare} g : sProp 𝕄)
      = bigSep Finset.univ (fun r : Fin 4096 => m.view.loc (c : Thread nD τ) ↦[rowSet m r]{fullShare} g) := by
  have h := pointsTo_biUnion (nD := nD) (τ := τ) (sig := sig) (Ix := Unit) (Val := Elt F) (Name := ℕ) (U := Pipeline.UD sig nD τ) (Lvl := ℕ)
    (ℓ := m.view.loc (c : Thread nD τ)) (q := fullShare) (f := g) Finset.univ (rowSet m) (rowSet_disjoint m)
  rw [← h]
  exact congrArg (fun S => (m.view.loc (c : Thread nD τ) ↦[S]{fullShare} g : sProp 𝕄)) (rowSet_cover m).symm

/-- ONE GRID POINT: from the block at any contents to the block gathered, the table and the weight array unchanged, the
    semaphore at zero on both sides. -/
theorem wp_point (q : PosShare TreeShare) (hok : ∀ j, (t j).toNat < 50257) (h1 h2) (W : Waits sig Unit)
    {Q : PUnit → sProp 𝕄} :
    iprop(table c t q ∗ weights c w ∗ semVal ((c : Thread nD τ), .dma cc0_scratch0.sem) 0
        ∗ (∃ d, owns (c : Thread nD τ) m fullShare d) ∗ owes (c : Thread nD τ) 0 W)
      ⊢ iprop((iprop(table c t q ∗ weights c w ∗ semVal ((c : Thread nD τ), .dma cc0_scratch0.sem) 0
            ∗ owns (c : Thread nD τ) m fullShare (gathered t w i)
            ∗ owes (c : Thread nD τ) 0 (insert (SemLoc.dma cc0_scratch0.sem, ()) W)) -∗ Q ⟨⟩)
        -∗ wp frame (wpE (defs₀ (F := F)) Variants.none (c : Thread nD τ) none) Set.univ
          (cc0_embedding_gather (F := F) i (Memref.whole main_v0) h1 (Memref.whole main_v1) h2 m hm cc0_scratch0) Q) := by
  rw [cc0_embedding_gather_eq_skeleton]
  unfold cc0_embedding_gather_skel
  simp only [wp_bind]
  unfold owns
  iintro ⟨HT, HW, HV, ⟨%d, %f, -, HM⟩, HO⟩ HK
  imod (Transfers.batch_alloc' (countersEmb (U := Pipeline.UD sig nD τ)) (c := (c : Thread nD τ)) (sm := .dma cc0_scratch0.sem) () rowCredit
    (done c m hm t w i) (E := Set.univ)) $$ HV with HB
  ihave HW' := (weights_split c t w i).1 $$ HW
  icases HW' with ⟨HL, HLent, HU⟩
  ihave HR := (Entails.of_eq (block_rows c m f)) $$ HM
  ihave HS := (show iprop(flight c m hm t w i 0 ∗ bigSep Finset.univ (fun r : Fin 4096 => (m.view.loc (c : Thread nD τ) ↦[rowSet m r]{fullShare} f : sProp 𝕄))
      ∗ bigSep Finset.univ (lent c t w i)) ⊢ issued c m hm t w i f (8 * 0) from by
    unfold issued
    rw [Ring.rangeSet_univ]
    exact Entails.of_eq (congrArg (fun X => iprop(flight c m hm t w i 0 ∗ X))
      (bigSep_sep Finset.univ (fun r : Fin 4096 => (m.view.loc (c : Thread nD τ) ↦[rowSet m r]{fullShare} f : sProp 𝕄)) (lent c t w i)).symm)) $$ [HB HR HLent]
  · isplitl [HB]; · iexact HB
    isplitl [HR] <;> iassumption
  iapply (Scf.wp_for _ _ _ _ _ _ k0_t1_ok ⟨⟩ _ (fun k _ => iprop(table c t q ∗ issued c m hm t w i f (8 * k)))
    (fun k u => wp_trip c m hm t w i q hok f h1 h2 k u))
  isplitl [HT HS]
  · isplitl [HT] <;> iassumption
  iintro %u ⟨HT, HS⟩
  ihave HB := (show issued c m hm t w i f (8 * k0_t1_loop.trips) ⊢ flight c m hm t w i 4096 from by
    unfold issued
    rw [trips_eq]
    iintro ⟨H, -⟩
    iexact H) $$ HS
  iapply (Transfers.wp_waitBatchAll (countersEmb (U := Pipeline.UD sig nD τ)) Variants.none (c : Thread nD τ) none
    (dstw := m) () (J := RefSig.tileCredit S4096x1x1024 .f32) rfl rowCredit_pos blockCredit) $$ [HB HO]
  · isplitl [HB] <;> iassumption
  iintro ⟨HD, HV, HO⟩
  rw [wp_ret]
  imodintro
  rw [wp_pure]
  imodintro
  ihave HD' := (show bigSep Finset.univ (done c m hm t w i) ⊢ iprop((m.view.loc (c : Thread nD τ) ↦[m.view.set]{fullShare} (hm.unread (gathered t w i)))
      ∗ bigSep Finset.univ (lent c t w i)) from by
    rw [block_rows]
    exact Entails.of_eq (bigSep_sep Finset.univ (fun r : Fin 4096 => (m.view.loc (c : Thread nD τ) ↦[rowSet m r]{fullShare}
      (hm.unread (gathered t w i)) : sProp 𝕄)) (lent c t w i))) $$ HD
  icases HD' with ⟨HM, HLent⟩
  iapply HK
  isplitl [HT]; · iexact HT
  isplitl [HL HLent HU]
  · iapply (weights_split c t w i).2
    isplitl [HL]; · iexact HL
    isplitl [HLent] <;> iassumption
  isplitl [HV]; · iexact HV
  isplitl [HM]
  · iexists (hm.unread (gathered t w i))
    isplitr
    · ipureintro; exact hm.read_unread _
    · iexact HM
  iexact HO

end Point

end Cert.Kernel.Gather
-- ==== Proof.Run.lean ====
/-
  The launch of the gather: the four points' blocks cover the result, so the whole result is the gathered rows, and
  the reshape after the kernel is the program's result.
-/
module

public import proofs.«01_k».proof.Proof.Body
public import proofs.«01_k».proof.Proof.Gen.Kernel.Launch
public import Idealize.ShloMosaic.Lib.Pipeline.FrameSuffix
public import Idealize.ShloMosaic.Lib.Pipeline.Value
public import Idealize.ShloMosaic.Lib.Pipeline.TableIdle

@[expose] public section

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The proof's algebra. -/
local notation "𝕄" => MT nD τ sig Unit (Elt F) ℕ (Pipeline.UD sig nD τ) ℕ

variable (m : (ℓ : Loc nD τ sig) → Buf (Elt F) ℓ)

/-- The buffers when the kernel starts: the two arguments have been reshaped. -/
def start (c : Dev nD) : Valuation τ sig (Elt F) :=
  StableHlo.after [hostOps0 (F := F)].flatten fun b => m (c, b)

/-- The buffers when the kernel starts, by reference. -/
abbrev startAt (c : Dev nD) (b : Ref sig .tc) : Buf (Elt F) ((c : Thread nD τ).loc b) := start m c (Proc.devRef .tc b)

/-- The index table the kernel reads. -/
abbrev tableOf (c : Dev nD) : Tab := startAt m c main_v0

/-- The weights the kernel reads. -/
abbrev weightsOf (c : Dev nD) : Wt F := startAt m c main_v1

/-- The table's contents, which the launch passes on: every contents is admissible. -/
def adm : (p : Fin 1) → (pcfgs (F := F) p).Adm :=
  fun _ => ⟨fun k => startAt m 0 (pre0.ref k), trivial⟩

/-- The kernel's own semaphore. -/
abbrev ownSem : Fin 1 → SemLoc sig := fun _ => .dma cc0_scratch0.sem

theorem ownSem_facts : Pipeline.OwnSemFacts spec0 ownSem := by decide

/-- The array the kernel's copies read. -/
def readBy : Finset (Ref sig .tc) := {main_v1}

theorem readBy_rest : readBy ⊆ Pipeline.restRefsP sig pre0 spec0 := by decide

/-- The pipeline's configuration at the table. -/
abbrev conf := (pcfgs (F := F) 0).at (adm m 0)

/-- What the launch keeps at every point: the weights, the semaphore at zero and the table. -/
def kept (c : Dev nD) : sProp 𝕄 :=
  iprop(Pipeline.ΦD ownSem spec0 readBy (startAt m) c ∗ Pipeline.ΦT pre0 (adm m 0).1 c)

/-- The run's data: each point leaves its gathered rows in the window. -/
def dats (_ : Fin 1) (c : Dev nD) : Dat τ (Elt F) Unit ℕ (Pipeline.UD sig nD τ) ℕ (conf m) c where
  A w := startAt m c (Pipeline.arrRef spec0 w)
  after w t := match w with
    | ⟨0, _⟩ => gathered (tableOf m c) (weightsOf m c) (grid0.coords t)
  Φ _ := kept m c
  q _ := fullShare
  owed _ := 0

theorem kept_eq (c : Dev nD) :
    kept m c = iprop((emp ∗ (∃ r, prngReg c r) ∗ semVal ((c : Thread nD τ), .dma cc0_scratch0.sem) 0
        ∗ weights c (weightsOf m c)) ∗ table c (tableOf m c) fullShare.right) := by
  have hc : c = 0 := Subsingleton.elim _ _
  subst hc
  unfold kept Pipeline.ΦT Pipeline.prefHeld
  rw [Pipeline.ΦD_eq, scopedRest0_eq, Pipeline.ownSems0_eq_of_list _ ownSem [0] (by decide) (by decide),
    BI.bigSep_eq_bigSepL_of_eq (S := readBy) [main_v1] (by decide) (by decide),
    BI.bigSep_eq_bigSepL_of_eq (S := (Finset.univ : Finset (Fin pre0.K))) [0] (by decide) (by decide)]
  rfl

/-! ## One point's obligation -/

/-- Every index in the table names a row of the weights. -/
def InRange (c : Dev nD) : Prop := ∀ j, (tableOf m c j).toNat < 50257

/-- Point `t`'s staging buffer for the result's block. -/
abbrev stageAt (t : Fin (conf m).N) : OutM := spec0_0.stage ((conf m).slots t 0)

theorem stageAt_whole (t : Fin (conf m).N) : (stageAt m t).IsWhole :=
  hstage0_0 (((conf m).slots t 0).cast nbuf0_0)

/-- The body at point `t`. -/
abbrev bodyAt (t : Fin (conf m).N) : Prog (TpuEff nD τ sig (Elt F) Λ₀ .tc) PUnit :=
  cc0_embedding_gather (grid0.coords t) (Memref.whole main_v0) (Memref.isWhole_whole _) (Memref.whole main_v1)
    (Memref.isWhole_whole _) (stageAt m t) (stageAt_whole m t) cc0_scratch0

theorem defs₀_row (t : Fin (conf m).N) :
    defs₀ (F := F) .tc (conf m).body ((conf m).bodyArgs t ((conf m).slots t)) = bodyAt m t := by
  unfold defs₀; rw [Defs.onTc_tc]

theorem sound_body (c : Dev nD) (hr : InRange m c) (t : Fin (conf m).N) :
    iprop((dats m 0 c).Φ t.castSucc ∗ (dats m 0 c).owesAt () t.castSucc
        ∗ (∃ d, owns (c : Thread nD τ) (stageAt m t) fullShare ((dats m 0 c).before 0 t d)))
      ⊢ wp frame (wpE (defs₀ (F := F)) Variants.none (c : Thread nD τ) none) Set.univ (bodyAt m t)
          fun _ => iprop((dats m 0 c).Φ t.succ ∗ (dats m 0 c).owesAt () t.succ
            ∗ owns (c : Thread nD τ) (stageAt m t) fullShare ((dats m 0 c).after 0 t)) := by
  rw [show (dats m 0 c).Φ t.castSucc = kept m c from rfl, show (dats m 0 c).Φ t.succ = kept m c from rfl, kept_eq,
    show (dats m 0 c).after 0 t = gathered (tableOf m c) (weightsOf m c) (grid0.coords t) from rfl]
  unfold Dat.owesAt Pipeline.owesWithin
  rw [show (dats m 0 c).owed t.castSucc = 0 from rfl, show (dats m 0 c).owed t.succ = 0 from rfl]
  iintro ⟨⟨⟨HE, Hg, HS, HW⟩, HT⟩, ⟨%W, -, HO⟩, ⟨%d, HB⟩⟩
  iapply (wp_point c (stageAt m t) (stageAt_whole m t) (tableOf m c) (weightsOf m c) (grid0.coords t) fullShare.right hr
    (Memref.isWhole_whole _) (Memref.isWhole_whole _) W) $$ [HT HW HS HB HO]
  · isplitl [HT]; · iexact HT
    isplitl [HW]; · iexact HW
    isplitl [HS]; · iexact HS
    isplitl [HB]; · iexists _; iexact HB
    iexact HO
  iintro ⟨HT, HW, HS, HB, HO⟩
  isplitl [HE Hg HS HW HT]
  · isplitl [HE Hg HS HW]
    · isplitl [HE]; · iexact HE
      isplitl [Hg]; · iexact Hg
      isplitl [HS]; · iexact HS
      iexact HW
    iexact HT
  isplitl [HO]
  · iexists (insert (SemLoc.dma cc0_scratch0.sem, ()) W); isplitr; · ipureintro; exact fun _ _ => Or.inl trivial
    iexact HO
  iexact HB

theorem body_obligation (c : Dev nD) (hr : InRange m c) :
    BodyObligation (dats (F := F) m 0 c) (defs₀ (F := F)) Variants.none () Set.univ := fun t => by
  rw [bigSep_W0, bigSep_W0, defs₀_row]
  exact triple_restated (sound_body m c hr t) rfl .rfl fun _ => .rfl

/-! ## The result array -/

/-- The result: row `r` is the row of the weights that the table's word `r` names. -/
def rows (t : Tab) (w : Wt F) : S16384x1x1024.Idx → Elt F .f32 := fun y =>
  w (srcIdx (t fun a => ⟨(y 0).val, by fin_cases a; exact (y 0).isLt⟩).toNat ⟨(y 2).val, (y 2).isLt⟩)

theorem block_index (t : Fin grid0.N) : cc0_transform_1 (grid0.coords t) = ![t.val, 0, 0] := by
  rcases fin_N0 t with rfl | rfl | rfl | rfl <;> decide

theorem coord_eq (t : Fin grid0.N) : ((grid0.coords t) 0).val = t.val := by
  rcases fin_N0 t with rfl | rfl | rfl | rfl <;> decide

theorem flush_num (t : Fin grid0.N) :
    (true && (decide (t.val + 1 = grid0.N) || decide (∃ h : t.val + 1 < grid0.N, ∃ a : Fin 3,
      cc0_transform_1 (grid0.coords ⟨t.val + 1, h⟩) a ≠ cc0_transform_1 (grid0.coords t) a))) = true := by
  rcases fin_N0 t with rfl | rfl | rfl | rfl <;> decide

theorem flush_out (t : Fin (conf m).N) : ((conf m).win 0).flush t = true :=
  (Pipeline.Window.flush_eq_flushF _ t).trans (flush_num t)

/-- Block `t` of the result as a rectangle. -/
abbrev outRect (t : Fin grid0.N) : Rect S16384x1x1024 :=
  Rect.unit (s := S16384x1x1024) (fun a => cc0_transform_1 (grid0.coords t) a * S4096x1x1024.size a) S4096x1x1024.size
    fun a => by
      rw [block_index]
      have hN : t.val < 4 := lt_of_lt_of_eq t.isLt N_0
      fin_cases a
      · show t.val * 4096 + 4096 ≤ 16384; omega
      · show 0 * 1 + 1 ≤ 1; omega
      · show 0 * 1024 + 1024 ≤ 1024; omega

theorem mem_outRect (t : Fin grid0.N) (i : S16384x1x1024.Idx) :
    i ∈ (outRect t).set ↔ t.val * 4096 ≤ (i 0 : Nat) ∧ (i 0 : Nat) < t.val * 4096 + 4096 := by
  rw [Rect.mem_set_unit, block_index]
  have h1 : (i 1 : Nat) < 1 := (i 1).isLt
  have h2 : (i 2 : Nat) < 1024 := (i 2).isLt
  refine ⟨fun h => ?_, fun h a => ?_⟩
  · have h0 := h 0
    rwa [show (![t.val, 0, 0] : Fin 3 → ℕ) 0 = t.val from rfl, show S4096x1x1024.size 0 = 4096 from rfl] at h0
  match a with
  | ⟨0, _⟩ =>
    show t.val * 4096 ≤ (i 0 : Nat) ∧ (i 0 : Nat) < t.val * 4096 + 4096
    exact h
  | ⟨1, _⟩ => show 0 * 1 ≤ (i 1 : Nat) ∧ (i 1 : Nat) < 0 * 1 + 1
              exact ⟨Nat.zero_le _, h1⟩
  | ⟨2, _⟩ => show 0 * 1024 ≤ (i 2 : Nat) ∧ (i 2 : Nat) < 0 * 1024 + 1024
              rw [Nat.zero_mul, Nat.zero_add]
              exact ⟨Nat.zero_le _, h2⟩

theorem mem_blk (t : Fin (conf m).N) (i : S16384x1x1024.Idx) :
    i ∈ (((conf m).win 0).blk t).view.set ↔ t.val * 4096 ≤ (i 0 : Nat) ∧ (i 0 : Nat) < t.val * 4096 + 4096 := by
  show i ∈ ((View.whole main_v2).slice (outRect t)).set ↔ _
  rw [View.set_slice_whole]
  exact mem_outRect t i

/-- A block's row read in the whole result. -/
theorem rows_at (t : Tab) (w : Wt F) (i : grid0.Coords) (y : S4096x1x1024.Idx) (z : S16384x1x1024.Idx)
    (h0 : (z 0).val = 4096 * (i 0).val + (y 0).val) (h2 : (z 2).val = (y 2).val) : gathered t w i y = rows t w z := by
  have e : tabIdx i ⟨(y 0).val, (y 0).isLt⟩ = fun a => ⟨(z 0).val, by fin_cases a; exact (z 0).isLt⟩ :=
    funext fun a => Fin.ext h0.symm
  unfold gathered rows word
  rw [e]
  simp only [h2]

theorem flushed_eq (c : Dev nD) (t : Fin (conf m).N) :
    (dats m 0 c).flushed 0 t = (((conf m).win 0).blk t).view.read (Elt F) (rows (tableOf m c) (weightsOf m c)) := by
  funext (y : S4096x1x1024.Idx)
  refine rows_at (tableOf m c) (weightsOf m c) (grid0.coords t) _ _ ?_ ?_
  · show cc0_transform_1 (grid0.coords t) 0 * 4096 + 1 * (y 0).val = _
    rw [block_index, coord_eq]
    show t.val * 4096 + 1 * (y 0).val = 4096 * t.val + (y 0).val
    omega
  · show cc0_transform_1 (grid0.coords t) 2 * 1024 + 1 * (y 2).val = _
    rw [block_index]
    show 0 * 1024 + 1 * (y 2).val = (y 2).val
    omega

theorem cover (i : S16384x1x1024.Idx) :
    ∃ t : Fin (conf m).N, ((conf m).win 0).flush t = true ∧ i ∈ (((conf m).win 0).blk t).view.set := by
  have h0 : (i 0 : Nat) < 16384 := (i 0).isLt
  have hN : (conf m).N = 4 := N_0
  refine ⟨⟨(i 0).val / 4096, by omega⟩, flush_out m _, ?_⟩
  rw [mem_blk]
  dsimp only
  omega

theorem final_out (c : Dev nD) : (dats m 0 c).arrAt 0 (conf m).N = rows (tableOf m c) (weightsOf m c) :=
  (dats m 0 c).arrAt_eq_of_cover 0 (rows (tableOf m c) (weightsOf m c)) (fun t _ => flushed_eq m c t) (cover m)

/-! ## The program's run -/

/-- The program's result: the gathered rows in the result's shape. -/
def result (c : Dev nD) : S2048x8x1024.Idx → Elt F .f32 :=
  shapeCast S2048x8x1024 (rows (tableOf m c) (weightsOf m c)) shapeCasts_S16384x1x1024_S2048x8x1024

/-- The buffers at the program's end, by reference. -/
abbrev finish (c : Dev nD) (b : Ref sig .tc) : Buf (Elt F) ((c : Thread nD τ).loc b) :=
  Pipeline.afterTail pcfgs (adm m) (dats m) 0 (start m) [hostOps1] c b

theorem finish_result (c : Dev nD) : finish m c main_v3 = result m c := by
  show StableHlo.after [hostOps1 (F := F)].flatten (Pipeline.withArrays spec0 c (start m c)
    fun w => (dats m 0 c).arrAt w (conf m).N) (Proc.devRef .tc main_v3) = _
  rw [List.flatten_singleton]
  unfold hostOps1
  after_results
  have e := Pipeline.withArrays_arr spec0 winFacts0.arr_inj c (start m c) (fun w => (dats m 0 c).arrAt w (conf m).N) 0
  rw [final_out] at e
  unfold result
  exact congrArg (fun v => shapeCast S2048x8x1024 v shapeCasts_S16384x1x1024_S2048x8x1024) e

theorem finish_arg0 (c : Dev nD) : finish m c main_arg0 = m ((c : Thread nD τ).loc main_arg0) := by
  show StableHlo.after [hostOps1 (F := F)].flatten (Pipeline.withArrays spec0 c (start m c)
    fun w => (dats m 0 c).arrAt w (conf m).N) (Proc.devRef .tc main_arg0) = _
  rw [List.flatten_singleton]
  unfold hostOps1
  after_results
  rw [Pipeline.withArrays_of_ne spec0 c (start m c) _ main_arg0 (by decide)]
  unfold start
  rw [List.flatten_singleton]
  unfold hostOps0
  after_results

theorem finish_arg1 (c : Dev nD) : finish m c main_arg1 = m ((c : Thread nD τ).loc main_arg1) := by
  show StableHlo.after [hostOps1 (F := F)].flatten (Pipeline.withArrays spec0 c (start m c)
    fun w => (dats m 0 c).arrAt w (conf m).N) (Proc.devRef .tc main_arg1) = _
  rw [List.flatten_singleton]
  unfold hostOps1
  after_results
  rw [Pipeline.withArrays_of_ne spec0 c (start m c) _ main_arg1 (by decide)]
  unfold start
  rw [List.flatten_singleton]
  unfold hostOps0
  after_results

/-- What the run ends in. -/
def Ends (r : PUnit × MemSt nD τ sig (Elt F)) : Prop :=
  (∀ c : Dev nD, r.2.mem ((c : Thread nD τ).loc main_v3) = result m c
    ∧ r.2.mem ((c : Thread nD τ).loc main_arg0) = m ((c : Thread nD τ).loc main_arg0)
    ∧ r.2.mem ((c : Thread nD τ).loc main_arg1) = m ((c : Thread nD τ).loc main_arg1))
  ∧ r.2.sem = fun _ => 0

theorem rest_v3 : main_v3 ∈ Pipeline.restRefs sig spec0 := by decide
theorem rest_arg0 : main_arg0 ∈ Pipeline.restRefs sig spec0 := by decide
theorem rest_arg1 : main_arg1 ∈ Pipeline.restRefs sig spec0 := by decide

theorem ends_of_post (r : PUnit × MemSt nD τ sig (Elt F))
    (h : Pipeline.FramePost (Pipeline.pin pcfgs (adm m)) (dats m) 0 (finish m) r ∧ r.2.sem = fun _ => 0) : Ends m r :=
  ⟨fun c => ⟨((h.1 c).2 main_v3 rest_v3).trans (finish_result m c),
    ((h.1 c).2 main_arg0 rest_arg0).trans (finish_arg0 m c),
    ((h.1 c).2 main_arg1 rest_arg1).trans (finish_arg1 m c)⟩, h.2⟩

theorem main_around (c : Dev nD) : main (F := F) c = Pipeline.chain
    ([hostOps0 (F := F)].map StableHlo.seq ++ [Prog.lift (.customCall (Pipeline.entry 0) ())]
      ++ [hostOps1 (F := F)].map StableHlo.seq) := main_chain c

theorem lines_sub : ∀ ops ∈ [hostOps1 (F := F)], ∀ op ∈ ops, op.bufs ⊆ Pipeline.tailRefsBut sig pre0 spec0 readBy := by
  intro ops h op ho
  obtain rfl := List.mem_singleton.mp h
  obtain rfl := List.mem_singleton.mp ho
  show ({Proc.devRef .tc main_v2, Proc.devRef .tc main_v3} : Finset (DevRef τ sig)) ⊆ _
  decide

theorem lines_keep : ∀ ops ∈ [hostOps1 (F := F)], ∀ op ∈ ops, ∀ w, Proc.devRef .tc (Pipeline.arrRef spec0 w) ∉ op.writes := by
  intro ops h op ho w
  obtain rfl := List.mem_singleton.mp h
  obtain rfl := List.mem_singleton.mp ho
  fin_cases w
  show Proc.devRef .tc main_v2 ∉ ({Proc.devRef .tc main_v3} : Finset (DevRef τ sig))
  decide

theorem lines_fresh : ∀ ops ∈ [hostOps1 (F := F)], ∀ op ∈ ops, op.fresh = ∅ := by
  intro ops h op ho
  obtain rfl := List.mem_singleton.mp h
  obtain rfl := List.mem_singleton.mp ho
  rfl

theorem table_passed (c : Dev nD) (k : Fin pre0.K) : start m c (Proc.devRef .tc (pre0.ref k)) = (adm m 0).1 k := by
  have hc : c = 0 := Subsingleton.elim _ _
  subst hc
  rfl

set_option backward.isDefEq.respectTransparency.types false in
theorem run (g : Dev nD → PrngReg) (hr : ∀ c, InRange m c) :
    θ_run defs (onTc (τ := τ) (main (F := F))) (s₀ m g) (Ends m) :=
  Pipeline.θ_run_frameP_dma_around pcfgs (adm m) (dats m) (0 : Fin 1) launch0 ownSem defs₀ Variants.none ownSem_facts
    readBy readBy_rest m g main
    (hbody := fun c => (body_obligation m c (hr c)).loose) (hshare := fun c => (dats m 0 c).share_full fun _ => rfl)
    (howed := fun _ _ => rfl) (V₀ := start m) (opss := [hostOps1]) (hsub := lines_sub) (hfresh := lines_fresh)
    (hkeep := lines_keep)
    (hmain := Pipeline.hmainP_around pcfgs 0 defs₀ Variants.none m main [hostOps0] [hostOps1]
      hostOps0_sub ⟨rfl, rfl⟩ main_around)
    (hA := fun _ _ => rfl) (hpf := table_passed m) (hin := fun _ => .rfl)
    (hout := fun _ => by
      unfold dats kept
      iintro ⟨H, -⟩
      iexact H)
    (Q' := Ends m) (hQ' := ends_of_post m)

end Cert.Kernel.Gather
-- ==== Proof.Lookup.lean ====
/-
  The lookup in plain words: entry `(p, q, e)` of the result is entry `e` of the row of the weights that index
  `(p, q)` names.
-/
module

public import Idealize.ShloMosaic.Init

@[expose] public section

noncomputable section

namespace Cert.Lookup

open Idealize.ShloMosaic

/-- The index array's shape. -/
abbrev SI : Shape := ⟨2, ![2048, 8]⟩
/-- The weights' shape. -/
abbrev SW : Shape := ⟨2, ![50257, 1024]⟩
/-- The result's shape. -/
abbrev SO : Shape := ⟨3, ![2048, 8, 1024]⟩

/-- Position `(p, q)` of the index array. -/
def at2 (p : Fin 2048) (q : Fin 8) : SI.Idx := Fin.cons p (Fin.cons q fun a => a.elim0)

/-- Entry `e` of row `n` of the weights, the last row when `n` is past it. -/
def entry (n : ℕ) (e : Fin 1024) : SW.Idx :=
  Fin.cons (⟨min n 50256, Nat.lt_succ_of_le (Nat.min_le_right _ _)⟩ : Fin 50257) (Fin.cons e fun a => a.elim0)

/-- The looked-up rows. -/
def looked {α : Type} (x : SI.Idx → BitVec 32) (w : SW.Idx → α) : SO.Idx → α := fun y =>
  w (entry (x (at2 ⟨(y 0).val, (y 0).isLt⟩ ⟨(y 1).val, (y 1).isLt⟩)).toNat ⟨(y 2).val, (y 2).isLt⟩)

end Cert.Lookup
-- ==== Proof.Value.lean ====
/-
  The program's result in terms of its arguments: the reshapes before and after the kernel cancel against its row
  numbering, so the result is the lookup. The run then follows from the indices' range alone.
-/
module

public import proofs.«01_k».proof.Proof.Run
public import proofs.«01_k».proof.Proof.Lookup

@[expose] public section

set_option maxRecDepth 16384

noncomputable section

namespace Cert.Kernel.Gather

open Cert.Kernel Cert.Kernel.Gen Cert.Lookup
open Idealize.ShloMosaic Idealize.ShloMosaic.TcCoe
open Idealize.SL.Sem

variable {F : FTy → Type} [FloatOps F]
variable (m : (ℓ : Loc nD τ sig) → Buf (Elt F) ℓ)

/-- The index argument. -/
abbrev indices (c : Dev nD) : SI.Idx → BitVec 32 := m ((c : Thread nD τ).loc main_arg0)

/-- The weight argument. -/
abbrev rowsArg (c : Dev nD) : SW.Idx → Elt F .f32 := m ((c : Thread nD τ).loc main_arg1)

theorem table_eq (c : Dev nD) : tableOf m c = shapeCast S16384 (indices m c) shapeCasts_S2048x8_S16384 := by
  show start m c (Proc.devRef .tc main_v0) = _
  unfold start
  rw [List.flatten_singleton]
  unfold hostOps0
  after_results
  rfl

theorem weights_eq (c : Dev nD) :
    weightsOf m c = shapeCast S50257x1x1024 (rowsArg m c) shapeCasts_S50257x1024_S50257x1x1024 := by
  show start m c (Proc.devRef .tc main_v1) = _
  unfold start
  rw [List.flatten_singleton]
  unfold hostOps0
  after_results
  rfl

/-- The table's indices are the argument's, so they are in range together. -/
theorem in_range_of (c : Dev nD) (h : ∀ j, (indices m c j).toNat < 50257) : InRange m c := fun j => by
  rw [table_eq]
  exact h _

/-- Row `r` of the result in the kernel's numbering. -/
def place (p : Fin 2048) (q : Fin 8) (e : Fin 1024) : S16384x1x1024.Idx :=
  Fin.cons (⟨p.val * 8 + q.val, by omega⟩ : Fin 16384) (Fin.cons (0 : Fin 1) (Fin.cons e fun a => a.elim0))

/-- The same row's word in the kernel's numbering. -/
def placeWord (p : Fin 2048) (q : Fin 8) : S16384.Idx :=
  Fin.cons (⟨p.val * 8 + q.val, by omega⟩ : Fin 16384) fun a => a.elim0

theorem cast_word {α : Type} (x : SI.Idx → α) (p : Fin 2048) (q : Fin 8) :
    shapeCast S16384 x shapeCasts_S2048x8_S16384 (placeWord p q) = x (at2 p q) :=
  shapeCast_apply x _ _ _ (by rw [Shape.rowMajor_val_two, Shape.rowMajor_val_one]; rfl)

theorem cast_entry {α : Type} (w : SW.Idx → α) (n : ℕ) (e : Fin 1024) :
    shapeCast S50257x1x1024 w shapeCasts_S50257x1024_S50257x1x1024 (srcIdx n e) = w (entry n e) :=
  shapeCast_apply w _ _ _ (by
    rw [Shape.rowMajor_val_two, Shape.rowMajor_val_three]
    show min n 50256 * 1024 + e.val = (min n 50256 * 1 + 0) * 1024 + e.val
    omega)

theorem cast_result {α : Type} (v : S16384x1x1024.Idx → α) (y : SO.Idx) :
    shapeCast S2048x8x1024 v shapeCasts_S16384x1x1024_S2048x8x1024 y
      = v (place ⟨(y 0).val, (y 0).isLt⟩ ⟨(y 1).val, (y 1).isLt⟩ ⟨(y 2).val, (y 2).isLt⟩) :=
  shapeCast_apply v _ _ _ (by
    rw [Shape.rowMajor_val_three, Shape.rowMajor_val_three]
    show (((y 0).val * 8 + (y 1).val) * 1 + 0) * 1024 + (y 2).val = ((y 0).val * 8 + (y 1).val) * 1024 + (y 2).val
    rw [Nat.mul_one, Nat.add_zero])

theorem rows_place (t : Tab) (w : Wt F) (p : Fin 2048) (q : Fin 8) (e : Fin 1024) :
    rows t w (place p q e) = w (srcIdx (t (placeWord p q)).toNat e) := by
  have h : (fun a => ⟨(place p q e 0).val, by fin_cases a; exact (place p q e 0).isLt⟩ : S16384.Idx) = placeWord p q :=
    funext fun a => by
      fin_cases a
      rfl
  unfold rows
  rw [h]
  rfl

/-- The program's result is the lookup. -/
theorem result_eq (c : Dev nD) : result m c = looked (indices m c) (rowsArg m c) := by
  funext y
  unfold result
  rw [cast_result, rows_place, table_eq, weights_eq, cast_word, cast_entry]
  rfl

/-- From indices in range the program ends with the lookup in its result, its arguments as they were and every
    semaphore at zero. -/
theorem run_looked (g : Dev nD → PrngReg) (h : ∀ c j, (indices m c j).toNat < 50257) :
    θ_run defs (onTc (τ := τ) (main (F := F))) ⟨m, fun _ => 0, g⟩ fun r =>
      (∀ c : Dev nD, r.2.mem ((c : Thread nD τ).loc main_v3) = looked (indices m c) (rowsArg m c)
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run defs _ _).mono (fun r e => ⟨fun c => ⟨(e.1 c).1.trans (result_eq m c), (e.1 c).2⟩, e.2⟩)
    (run m g fun c => in_range_of m c (h c))

end Cert.Kernel.Gather
-- ==== Proof.Same.lean ====
/-
  The kernel module and the module printed for reading at the ideal instance are the same program, so
  what is proved of the first at every carrier holds of the second.
-/
module

public import proofs.«01_k».proof.Proof.Value
public import proofs.«01_k».proof.Proof.Gen.KernelIdeal

@[expose] public section

set_option maxRecDepth 16384

noncomputable section

namespace Cert.KernelIdeal.Gather

open Idealize.ShloMosaic Idealize.ShloMosaic.TcCoe
open Idealize.SL.Sem

variable {F : FTy → Type} [FloatOps F]

theorem body_eq (i a b c d e f g) :
    Cert.KernelIdeal.cc0_embedding_gather (F := F) i a b c d e f g
      = Cert.Kernel.cc0_embedding_gather (F := F) i a b c d e f g := rfl

/-- The tables of bodies agree: at the one label, by the equality of the bodies. -/
theorem defs₀_eq : Cert.KernelIdeal.defs₀ (F := F) = (Cert.Kernel.defs₀ (F := F) : _) := by
  unfold Cert.KernelIdeal.defs₀ Cert.Kernel.defs₀
  refine congrArg Defs.onTc (funext fun l => funext fun a => ?_)
  obtain ⟨l, hl⟩ := l
  cases l with
  | zero => obtain ⟨t, s⟩ := a; exact body_eq ..
  | succ l => exact absurd hl (Nat.not_lt.2 (Nat.le_add_left _ _))

theorem defs_eq : Cert.KernelIdeal.defs (F := F) = (Cert.Kernel.defs (F := F) : _) := by
  unfold Cert.KernelIdeal.defs Cert.Kernel.defs
  exact congrArg (Pipeline.defs Cert.Kernel.pcfgs) defs₀_eq

open Cert.KernelIdeal Cert.Lookup

/-- Every run of the module ends with the looked-up rows in its result, its arguments as they were and
    every semaphore at zero, when every index names a row of the weights. -/
theorem run_looked (m : (ℓ : Loc nD τ sig) → Buf (Elt F) ℓ) (g : Dev nD → PrngReg)
    (h : ∀ (c : Dev nD) j, ((m ((c : Thread nD τ).loc main_arg0) : IVec S2048x8 32) j).toNat < 50257) :
    θ_run defs (onTc (τ := τ) (main (F := F))) ⟨m, fun _ => 0, g⟩ fun r =>
      (∀ c : Dev nD, r.2.mem ((c : Thread nD τ).loc main_v3)
            = looked (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0 := by
  rw [defs_eq]
  exact Cert.Kernel.Gather.run_looked (F := F) m g h

end Cert.KernelIdeal.Gather
-- ==== Proof.Vocabulary.lean ====
/-
  What the precondition says of the index array: every index, read as a number, is below the number of the
  weight array's rows.
-/
module

public import proofs.«01_k».proof.Proof.Gen.Pre_in_vocabulary
public import Idealize.ShloMosaic.Lib.ReduceAll
public import Idealize.ShloMosaic.Lib.StableHlo.Predicate

@[expose] public section

noncomputable section

namespace Cert.Lookup

open Idealize.ShloMosaic Cert.Pre_in_vocabulary Cert.Pre_in_vocabulary.Gen

/-- A word that is at least 0 and below 50257, both signed, is a number below 50257. -/
theorem toNat_lt_of_bits (a : BitVec 32)
    (h : IntOp.andi (IntOp.cmpi .sge a 0#32) (IntOp.cmpi .slt a 50257#32) = 1#1) : a.toNat < 50257 := by
  have h0 : (0#32 : BitVec 32).toInt = 0 := by decide
  have h1 : (50257#32 : BitVec 32).toInt = 50257 := by decide
  have hb : ∀ p q : Bool, IntOp.andi (BitVec.ofBool p) (BitVec.ofBool q) = 1#1 → p = true ∧ q = true := by decide
  unfold IntOp.cmpi at h
  obtain ⟨hp, hq⟩ := hb _ _ h
  simp only [BitVec.sle, BitVec.slt, h0, h1, decide_eq_true_eq] at hp hq
  rw [BitVec.toInt_eq_toNat_cond] at hp hq
  have := a.isLt
  split at hp <;> split at hq <;> omega

theorem in_range {F : FTy → Type} [FloatOps F] (x : IVec S2048x8 32) (w : FVec F S50257x1024 .f32)
    (h : Pre_in_vocabulary.fn (F := F) x w = fun _ => 1#1) (j : S2048x8.Idx) : (x j).toNat < 50257 := by
  unfold Pre_in_vocabulary.fn at h
  haveI : Subsingleton S_.Idx := ⟨fun a b => funext fun k => k.elim0⟩
  exact toNat_lt_of_bits _ (Host.reduce_andi_all _ _ _ _ (fun k => k.elim0) (congrFun h _) j)

end Cert.Lookup
-- ==== Proof.Reference.lean ====
/-
  What the reference computes: where every index is in the vocabulary no index is wrapped or replaced by the fill
  value, and the reference is the lookup.
-/
module

public import proofs.«01_k».proof.Proof.Lookup
public import proofs.«01_k».proof.Proof.Gen.ReferenceIdeal.Run
public import Idealize.ShloMosaic.Lib.ReduceAll
public import Idealize.ShloMosaic.Lib.StableHlo.Predicate

@[expose] public section

noncomputable section

namespace Cert.ReferenceIdeal.Taken

open Idealize.ShloMosaic Idealize.ShloMosaic.TcCoe Idealize.SL.Sem
open Cert.ReferenceIdeal Cert.ReferenceIdeal.Gen Cert.Lookup

variable {F : FTy → Type} [FloatOps F]

/-- The indices as the reference wraps them: a negative one counts from the end. -/
def wrapped (x : IVec S2048x8 32) : IVec S2048x8 32 :=
  select (cmpi .slt x (broadcastInDim S2048x8 ![] bcast_S_S2048x8 (constantI S_ 32 0#32)))
    (addi x (broadcastInDim S2048x8 ![] bcast_S_S2048x8 (constantI S_ 32 50257#32))) x

/-- No index in the vocabulary is wrapped. -/
theorem wrapped_eq (x : IVec S2048x8 32) (hx : ∀ j, (x j).toNat < 50257) : wrapped x = x := by
  funext j
  show Scalar.select (IntOp.cmpi .slt (x j) 0#32) _ _ = _
  have h := hx j
  refine if_neg fun e => ?_
  have := (StableHlo.Predicate.slt_iff_toNat (by omega) (by decide)).mp e
  exact absurd this (Nat.not_lt_zero _)

/-- The indices with a trailing axis of one. -/
abbrev column (x : IVec S2048x8 32) : IVec S2048x8x1 32 :=
  broadcastInDim S2048x8x1 ![0, 1] bcast_S2048x8_S2048x8x1_0_1 x

/-- The reference's mask: 1 where the index is in the vocabulary. -/
abbrev mask (x : IVec S2048x8 32) : IVec S2048x8x1 1 :=
  andi (cmpi .sge (column x) (broadcastInDim S2048x8x1 ![] bcast_S_S2048x8x1 (constantI S_ 32 0#32)))
    (cmpi .sle (column x) (broadcastInDim S2048x8x1 ![0, 1, 2] bcast_S1x1x1_S2048x8x1_0_1_2
      (broadcastInDim S1x1x1 ![2] bcast_S1_S1x1x1_2 (constantI S1 32 50256#32))))

theorem mask_one (x : IVec S2048x8 32) (hx : ∀ j, (x j).toNat < 50257) (k : S2048x8x1.Idx) : mask x k = 1#1 := by
  have h : ∀ j, IntOp.andi (IntOp.cmpi .sge (x j) 0#32) (IntOp.cmpi .sle (x j) 50256#32) = 1#1 := fun j => by
    have := hx j
    rw [(StableHlo.Predicate.sge_iff_toNat (a := x j) (b := 0#32) (by omega) (by decide)).mpr (Nat.zero_le _),
      (StableHlo.Predicate.sle_iff_toNat (a := x j) (b := 50256#32) (by omega) (by decide)).mpr (Nat.le_of_lt_succ this)]
    rfl
  exact h _

/-- The reference's gather: one row of the weights for each index. -/
abbrev dims := gather_S50257x1024_S2048x8x1_S2048x8x1024_2_0_n_n_0_2_11024

theorem batch_zero (y : S2048x8x1024.Idx) (a : Fin 2) : dims.batchCoord y a = 0 :=
  dims.batchCoord_eq_zero y a List.not_mem_nil

theorem off_row (y : S2048x8x1024.Idx) : dims.offCoord y 0 = 0 :=
  dims.offCoord_eq_zero y 0 fun h => ((dims.mem_sKept 0).1 h).1 (List.mem_singleton.2 rfl)

theorem off_col (y : S2048x8x1024.Idx) : dims.offCoord y 1 = (y 2).val := rfl

theorem start_col (y : S2048x8x1024.Idx) (v : IVec S2048x8x1 32) : dims.start y v 1 = 0 := rfl

/-- The mask folded along its last axis. -/
theorem folded_eq (x : IVec S2048x8 32) (hx : ∀ j, (x j).toNat < 50257) :
    Host.reduce IntOp.andi (mask x) (constantI S_ 1 1#1) reducesTo_S2048x8x1_S2048x8_d2 h_S_ = fun _ => 1#1 :=
  funext fun j =>
    Host.reduce_andi_one (mask x) (constantI S_ 1 1#1) reducesTo_S2048x8x1_S2048x8_d2 h_S_ j rfl (mask_one x hx)

/-- Where the reference reads the index for entry `y`. -/
def place (y : S2048x8x1024.Idx) : S2048x8x1.Idx :=
  Fin.cons (⟨(y 0).val, (y 0).isLt⟩ : Fin 2048) (Fin.cons (⟨(y 1).val, (y 1).isLt⟩ : Fin 8) (Fin.cons (0 : Fin 1) fun a => a.elim0))

theorem start_row (y : S2048x8x1024.Idx) (v : IVec S2048x8x1 32) :
    dims.start y v 0 = min (v (place y)).toInt.toNat 50256 := by
  have e : dims.siIdx y ⟨0, Nat.one_pos⟩ = place y := by
    funext b
    match b with
    | ⟨0, _⟩ => rfl
    | ⟨1, _⟩ => rfl
    | ⟨2, _⟩ => rfl
  rw [← e]
  rfl

theorem column_place (x : IVec S2048x8 32) (y : S2048x8x1024.Idx) :
    column x (place y) = x (at2 ⟨(y 0).val, (y 0).isLt⟩ ⟨(y 1).val, (y 1).isLt⟩) :=
  congrArg x (funext fun a => by
    match a with
    | ⟨0, _⟩ => rfl
    | ⟨1, _⟩ => rfl)

/-- The rows that the reference gathers. -/
theorem gather_eq {α : Type} (x : IVec S2048x8 32) (w : S50257x1024.Idx → α) (hx : ∀ j, (x j).toNat < 50257) :
    Host.gather gather_S50257x1024_S2048x8x1_S2048x8x1024_2_0_n_n_0_2_11024 w (column x) = looked x w := by
  funext y
  unfold Host.gather looked
  refine congrArg w (funext fun a => Fin.ext ?_)
  match a with
  | ⟨0, _⟩ =>
    show dims.start y (column x) 0 + dims.batchCoord y 0 + dims.offCoord y 0 = min _ 50256
    rw [start_row, batch_zero, off_row, column_place, StableHlo.Predicate.toInt_eq_toNat_of_lt
      (lt_trans (hx _) (by decide))]
    rfl
  | ⟨1, _⟩ =>
    show dims.start y (column x) 1 + dims.batchCoord y 1 + dims.offCoord y 1 = (y 2).val
    rw [start_col, batch_zero, off_col]
    exact Nat.zero_add _

/-- A choice by a mask that is 1. -/
theorem select_of_one {s : Shape} {α : Type} (c : IVec s 1) (a b : s.Idx → α) (i : s.Idx) (h : c i = 1#1) :
    select c a b i = a i := if_pos h

/-- The reference's value, as the run states it, is the lookup. -/
theorem taken_eq (x : IVec S2048x8 32) (w : FVec F S50257x1024 .f32) (hx : ∀ j, (x j).toNat < 50257) :
    select (broadcastInDim S2048x8x1024 ![0, 1] bcast_S2048x8_S2048x8x1024_0_1 (Host.reduce IntOp.andi (andi (cmpi .sge (broadcastInDim S2048x8x1 ![0, 1] bcast_S2048x8_S2048x8x1_0_1 (wrapped x)) (broadcastInDim S2048x8x1 ![] bcast_S_S2048x8x1 (constantI S_ 32 0#32))) (cmpi .sle (broadcastInDim S2048x8x1 ![0, 1] bcast_S2048x8_S2048x8x1_0_1 (wrapped x)) (broadcastInDim S2048x8x1 ![0, 1, 2] bcast_S1x1x1_S2048x8x1_0_1_2 (broadcastInDim S1x1x1 ![2] bcast_S1_S1x1x1_2 (constantI S1 32 50256#32))))) (constantI S_ 1 1#1) reducesTo_S2048x8x1_S2048x8_d2 h_S_)) (Host.gather gather_S50257x1024_S2048x8x1_S2048x8x1024_2_0_n_n_0_2_11024 w (broadcastInDim S2048x8x1 ![0, 1] bcast_S2048x8_S2048x8x1_0_1 (wrapped x))) (broadcastInDim S2048x8x1024 ![] bcast_S_S2048x8x1024 (constant S_ .f32 0x7FC00000#32)) = looked x w := by
  rw [wrapped_eq x hx, gather_eq x w hx, folded_eq x hx]
  funext y
  exact select_of_one _ _ _ y rfl

/-- Every run of the reference ends with the looked-up rows in its result, its arguments as they were. -/
theorem run_looked (m : (ℓ : Loc nD τ sig) → Buf (Elt F) ℓ) (ρ : Dev nD → PrngReg)
    (h : ∀ (c : Dev nD) j, ((m ((c : Thread nD τ).loc main_arg0) : IVec S2048x8 32) j).toNat < 50257) :
    θ_run defs (onTc (τ := τ) (main (F := F))) ⟨m, fun _ => 0, ρ⟩ fun r => ∀ c : Dev nD,
      r.2.mem ((c : Thread nD τ).loc main_v0)
          = looked (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1) :=
  (θ_run _ _ _).mono (fun _ e c => by
    have t := taken_eq (F := F) (m ((c : Thread nD τ).loc main_arg0)) (m ((c : Thread nD τ).loc main_arg1)) (h c)
    unfold wrapped at t
    exact ⟨(e c).1.trans t, (e c).2⟩) (Cert.ReferenceIdeal.Value.run m ρ)

end Cert.ReferenceIdeal.Taken
-- ==== Proof.lean ====
/-
  The claims about the gather kernel. Two runs are proved elsewhere: the kernel's (Proof/Value.lean, read at
  the ideal instance in Proof/Same.lean) and the reference's. Both end in the same closed form, `Cert.Lookup.looked`:
  entry `(a, b, c)` of the result is entry `c` of the row of the weights that index `(a, b)` names.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_vocabulary
public import proofs.«01_k».proof.Proof.Value
public import proofs.«01_k».proof.Proof.Same
public import proofs.«01_k».proof.Proof.Vocabulary
public import proofs.«01_k».proof.Proof.Reference
public import Idealize.ShloMosaic.Adequacy
public import Idealize.ShloMosaic.Init

@[expose] public section

set_option maxRecDepth 16384

noncomputable section

namespace Cert.Proof

open Idealize.ShloMosaic Idealize.ShloMosaic.TcCoe
open Idealize.SL.Sem

theorem kernel_frame : quiescent_Kernel := fun m g h =>
  (θ_run _ _ _).mono (fun _ e => ⟨fun c => (e.1 c).2, e.2⟩)
    (Cert.Kernel.Gather.run_looked (F := Bits) m g fun c j => Cert.Lookup.in_range _ _ (h c) j)

theorem ideal_frame : quiescent_KernelIdeal := fun m g h =>
  (θ_run _ _ _).mono (fun _ e => ⟨fun c => (e.1 c).2, e.2⟩)
    (Cert.KernelIdeal.Gather.run_looked (F := Ideal) m g fun c j => Cert.Lookup.in_range _ _ (h c) j)

/-- The reference has no semaphore, so every counter of its last state is zero. -/
theorem reference_frame : quiescent_ReferenceIdeal := fun m g _ =>
  (θ_run _ _ _).mono (fun r e => ⟨fun c => (e c).2, sem_eq_zero_of_no_sems (by decide) r.2⟩)
    (Cert.ReferenceIdeal.Value.run (F := Ideal) m g)

theorem reference_frame_in_vocabulary : quiescent_ReferenceIdeal_pre_in_vocabulary := fun m g _ =>
  reference_frame m g trivial

theorem same_result : algebraic_KernelIdeal_ReferenceIdeal := fun m g m' g' h hm =>
  ⟨fun c => Cert.Lookup.looked (m ((c : Thread Cert.KernelIdeal.nD Cert.KernelIdeal.τ).loc Cert.KernelIdeal.main_arg0))
      (m ((c : Thread Cert.KernelIdeal.nD Cert.KernelIdeal.τ).loc Cert.KernelIdeal.main_arg1)),
    (θ_run _ _ _).mono (fun _ e => e.1)
      (Cert.KernelIdeal.Gather.run_looked (F := Ideal) m g fun c j => Cert.Lookup.in_range _ _ (h c) j),
    (θ_run _ _ _).mono (fun _ e c => ⟨(e c).1.trans (congrArg₂ Cert.Lookup.looked (hm c).1 (hm c).2), (e c).2⟩)
      (Cert.ReferenceIdeal.Taken.run_looked (F := Ideal) m' g' fun c j =>
        Cert.Lookup.in_range _ (m ((c : Thread Cert.KernelIdeal.nD Cert.KernelIdeal.τ).loc Cert.KernelIdeal.main_arg1))
          ((congrArg (fun x => Cert.Pre_in_vocabulary.fn (F := Ideal) x _) (hm c).1).trans (h c)) j)⟩

theorem claim : Cert.Claim :=
  ⟨Cert.Kernel.Gen.facts, Cert.KernelIdeal.Gen.facts, Cert.ReferenceIdeal.Gen.facts, Cert.Pre_in_vocabulary.Gen.facts,
    kernel_frame, ideal_frame, reference_frame, reference_frame_in_vocabulary, trivial, same_result⟩

end Cert.Proof

end
